-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "attn_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)) (v3 : (c : Dev Cert.Kernel2Ideal.nD) → Buf (Elt Ideal) ((c.tc : Thread Cert.Kernel2Ideal.nD Cert.Kernel2Ideal.τ).loc Cert.Kernel2Ideal.main_v38_3)) (v4 : (c : Dev Cert.Kernel2Ideal.nD) → Buf (Elt Ideal) ((c.tc : Thread Cert.Kernel2Ideal.nD Cert.Kernel2Ideal.τ).loc Cert.Kernel2Ideal.main_v38_4)) (v5 : (c : Dev Cert.Kernel2Ideal.nD) → Buf (Elt Ideal) ((c.tc : Thread Cert.Kernel2Ideal.nD Cert.Kernel2Ideal.τ).loc Cert.Kernel2Ideal.main_v38_5)) (v6 : (c : Dev Cert.Kernel2Ideal.nD) → Buf (Elt Ideal) ((c.tc : Thread Cert.Kernel2Ideal.nD Cert.Kernel2Ideal.τ).loc Cert.Kernel2Ideal.main_v38_6)) (v7 : (c : Dev Cert.Kernel2Ideal.nD) → Buf (Elt Ideal) ((c.tc : Thread Cert.Kernel2Ideal.nD Cert.Kernel2Ideal.τ).loc Cert.Kernel2Ideal.main_v38_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_v38_3) = v3 c
          ∧ r.2.mem ((c.tc : Thread Cert.Kernel2Ideal.nD Cert.Kernel2Ideal.τ).loc Cert.Kernel2Ideal.main_v38_4) = v4 c
          ∧ r.2.mem ((c.tc : Thread Cert.Kernel2Ideal.nD Cert.Kernel2Ideal.τ).loc Cert.Kernel2Ideal.main_v38_5) = v5 c
          ∧ r.2.mem ((c.tc : Thread Cert.Kernel2Ideal.nD Cert.Kernel2Ideal.τ).loc Cert.Kernel2Ideal.main_v38_6) = v6 c
          ∧ r.2.mem ((c.tc : Thread Cert.Kernel2Ideal.nD Cert.Kernel2Ideal.τ).loc Cert.Kernel2Ideal.main_v38_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v150) = v0 c
          ∧ r.2.mem ((c.tc : Thread Cert.Reference2Ideal.nD Cert.Reference2Ideal.τ).loc Cert.Reference2Ideal.main_v152) = v1 c
          ∧ r.2.mem ((c.tc : Thread Cert.Reference2Ideal.nD Cert.Reference2Ideal.τ).loc Cert.Reference2Ideal.main_v154) = v2 c
          ∧ r.2.mem ((c.tc : Thread Cert.Reference2Ideal.nD Cert.Reference2Ideal.τ).loc Cert.Reference2Ideal.main_v155) = v3 c
          ∧ r.2.mem ((c.tc : Thread Cert.Reference2Ideal.nD Cert.Reference2Ideal.τ).loc Cert.Reference2Ideal.main_v157) = v4 c
          ∧ r.2.mem ((c.tc : Thread Cert.Reference2Ideal.nD Cert.Reference2Ideal.τ).loc Cert.Reference2Ideal.main_v159) = v5 c
          ∧ r.2.mem ((c.tc : Thread Cert.Reference2Ideal.nD Cert.Reference2Ideal.τ).loc Cert.Reference2Ideal.main_v161) = v6 c
          ∧ r.2.mem ((c.tc : Thread Cert.Reference2Ideal.nD Cert.Reference2Ideal.τ).loc Cert.Reference2Ideal.main_v168) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite_inputs : Cert.Pre_finite_inputs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
-- ==== Pre_finite.lean ====
abbrev S8x4096x512 : Shape := ⟨3, ![8, 4096, 512]⟩
abbrev S8x4096x128 : Shape := ⟨3, ![8, 4096, 128]⟩
abbrev S8x256x4x128 : Shape := ⟨4, ![8, 256, 4, 128]⟩
abbrev S8x256x2x64 : Shape := ⟨4, ![8, 256, 2, 64]⟩
abbrev S4x64 : Shape := ⟨2, ![4, 64]⟩
abbrev S128 : Shape := ⟨1, ![128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_
  bcast_S_S8x256x4x128 : S_.BroadcastsInDim S8x256x4x128 (![] : Fin 0 → Fin S8x256x4x128.rank)
  reducesTo_S8x256x4x128_S_d0_1_2_3 : S8x256x4x128.ReducesTo [0, 1, 2, 3] S_
  bcast_S_S8x256x2x64 : S_.BroadcastsInDim S8x256x2x64 (![] : Fin 0 → Fin S8x256x2x64.rank)
  reducesTo_S8x256x2x64_S_d0_1_2_3 : S8x256x2x64.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg10 : FVec F S4x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S4x64 .f32 := Host.absf main_arg10
  let main_cst_14 : FVec F S_ .f32 := constant S_ .f32 0x7F800000#32
  let main_v33 : FVec F S4x64 .f32 := broadcastInDim S4x64 ![] bcast_S_S4x64 main_cst_14
  let main_v34 : IVec S4x64 1 := cmpf .olt main_v32 main_v33
  let main_c_15 : IVec S_ 1 := constantI S_ 1 1#1
  let main_v35 : IVec S_ 1 := (fun x v => Host.reduce IntOp.andi x v reducesTo_S4x64_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S8x4096x128 .f32) (main_arg6 : FVec F S8x256x4x128 .f32) (main_arg7 : FVec F S8x256x4x128 .f32) (main_arg8 : FVec F S8x256x2x64 .f32) (main_arg10 : FVec F S4x64 .f32) (main_v3 : IVec S_ 1) (main_v7 : IVec S_ 1) (main_v11 : IVec S_ 1) (main_v15 : IVec S_ 1) : IVec S_ 1 :=
  let main_v16 : FVec F S8x4096x128 .f32 := Host.absf main_arg4
  let main_cst_6 : FVec F S_ .f32 := constant S_ .f32 0x7F800000#32
  let main_v17 : FVec F S8x4096x128 .f32 := broadcastInDim S8x4096x128 ![] bcast_S_S8x4096x128 main_cst_6
  let main_v18 : IVec S8x4096x128 1 := cmpf .olt main_v16 main_v17
  let main_c_7 : IVec S_ 1 := constantI S_ 1 1#1
  let main_v19 : IVec S_ 1 := (fun x v => Host.reduce IntOp.andi x v reducesTo_S8x4096x128_S_d0_1_2 h_S_) main_v18 main_c_7
  let main_v20 : FVec F S8x256x4x128 .f32 := Host.absf main_arg6
  let main_cst_8 : FVec F S_ .f32 := constant S_ .f32 0x7F800000#32
  let main_v21 : FVec F S8x256x4x128 .f32 := broadcastInDim S8x256x4x128 ![] bcast_S_S8x256x4x128 main_cst_8
  let main_v22 : IVec S8x256x4x128 1 := cmpf .olt main_v20 main_v21
  let main_c_9 : IVec S_ 1 := constantI S_ 1 1#1
  let main_v23 : IVec S_ 1 := (fun x v => Host.reduce IntOp.andi x v reducesTo_S8x256x4x128_S_d0_1_2_3 h_S_) main_v22 main_c_9
  let main_v24 : FVec F S8x256x4x128 .f32 := Host.absf main_arg7
  let main_cst_10 : FVec F S_ .f32 := constant S_ .f32 0x7F800000#32
  let main_v25 : FVec F S8x256x4x128 .f32 := broadcastInDim S8x256x4x128 ![] bcast_S_S8x256x4x128 main_cst_10
  let main_v26 : IVec S8x256x4x128 1 := cmpf .olt main_v24 main_v25
  let main_c_11 : IVec S_ 1 := constantI S_ 1 1#1
  let main_v27 : IVec S_ 1 := (fun x v => Host.reduce IntOp.andi x v reducesTo_S8x256x4x128_S_d0_1_2_3 h_S_) main_v26 main_c_11
  let main_v28 : FVec F S8x256x2x64 .f32 := Host.absf main_arg8
  let main_cst_12 : FVec F S_ .f32 := constant S_ .f32 0x7F800000#32
  let main_v29 : FVec F S8x256x2x64 .f32 := broadcastInDim S8x256x2x64 ![] bcast_S_S8x256x2x64 main_cst_12
  let main_v30 : IVec S8x256x2x64 1 := cmpf .olt main_v28 main_v29
  let main_c_13 : IVec S_ 1 := constantI S_ 1 1#1
  let main_v31 : IVec S_ 1 := (fun x v => Host.reduce IntOp.andi x v reducesTo_S8x256x2x64_S_d0_1_2_3 h_S_) main_v30 main_c_13
  fn_part2 (F := F) main_arg10 main_v3 main_v7 main_v11 main_v15 main_v19 main_v23 main_v27 main_v31

def fn {F : FTy → Type} [FloatOps F] (main_arg0 : FVec F S8x4096x512 .f32) (main_arg1 : FVec F S8x4096x512 .f32) (main_arg2 : FVec F S8x4096x512 .f32) (main_arg3 : FVec F S8x4096x512 .f32) (main_arg4 : FVec F S8x4096x128 .f32) (main_arg5 : FVec F S8x4096x128 .f32) (main_arg6 : FVec F S8x256x4x128 .f32) (main_arg7 : FVec F S8x256x4x128 .f32) (main_arg8 : FVec F S8x256x2x64 .f32) (main_arg9 : FVec F S8x256x2x64 .f32) (main_arg10 : FVec F S4x64 .f32) (main_arg11 : FVec F S128 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : FVec F S8x4096x512 .f32 := Host.absf main_arg2
  let main_cst_2 : FVec F S_ .f32 := constant S_ .f32 0x7F800000#32
  let main_v9 : FVec F S8x4096x512 .f32 := broadcastInDim S8x4096x512 ![] bcast_S_S8x4096x512 main_cst_2
  let main_v10 : IVec S8x4096x512 1 := cmpf .olt main_v8 main_v9
  let main_c_3 : IVec S_ 1 := constantI S_ 1 1#1
  let main_v11 : IVec S_ 1 := (fun x v => Host.reduce IntOp.andi x v reducesTo_S8x4096x512_S_d0_1_2 h_S_) main_v10 main_c_3
  let main_v12 : FVec F S8x4096x512 .f32 := Host.absf main_arg3
  let main_cst_4 : FVec F S_ .f32 := constant S_ .f32 0x7F800000#32
  let main_v13 : FVec F S8x4096x512 .f32 := broadcastInDim S8x4096x512 ![] bcast_S_S8x4096x512 main_cst_4
  let main_v14 : IVec S8x4096x512 1 := cmpf .olt main_v12 main_v13
  let main_c_5 : IVec S_ 1 := constantI S_ 1 1#1
  let main_v15 : IVec S_ 1 := (fun x v => Host.reduce IntOp.andi x v reducesTo_S8x4096x512_S_d0_1_2 h_S_) main_v14 main_c_5
  fn_part1 (F := F) main_arg4 main_arg6 main_arg7 main_arg8 main_arg10 main_v3 main_v7 main_v11 main_v15
-- ==== Pre_finite_inputs.lean ====
abbrev S32768x1024 : Shape := ⟨2, ![32768, 1024]⟩
abbrev S16x6144 : Shape := ⟨2, ![16, 6144]⟩
abbrev S1024x5888 : Shape := ⟨2, ![1024, 5888]⟩
abbrev S64 : Shape := ⟨1, ![64]⟩
abbrev S4096x32 : Shape := ⟨2, ![4096, 32]⟩
abbrev S8x2048 : Shape := ⟨2, ![8, 2048]⟩
abbrev S1024x640 : Shape := ⟨2, ![1024, 640]⟩
abbrev S_ : Shape := ⟨0, ![]⟩

class Facts : Prop where
  slices_S16x6144_S8x2048_0_0 : S16x6144.Slices ![0, 0] S8x2048
  slices_S1024x5888_S1024x640_0_1536 : S1024x5888.Slices ![0, 1536] S1024x640
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S1024x640 : S_.BroadcastsInDim S1024x640 (![] : Fin 0 → Fin S1024x640.rank)
  reducesTo_S1024x640_S_d0_1 : S1024x640.ReducesTo [0, 1] S_

variable [Facts]

def fn {F : FTy → Type} [FloatOps F] (main_arg0 : FVec F S32768x1024 .f32) (main_arg1 : FVec F S16x6144 .f32) (main_arg2 : FVec F S1024x5888 .f32) (main_arg3 : FVec F S64 .f32) (main_arg4 : FVec F S64 .f32) (main_arg5 : FVec F S4096x32 .f32) (main_arg6 : FVec F S4096x32 .f32) : IVec S_ 1 :=
  let main_v0 : FVec F S8x2048 .f32 := (extractStridedSlice S8x2048 ![0, 0] · slices_S16x6144_S8x2048_0_0) main_arg1
  let main_v1 : FVec F S1024x640 .f32 := (extractStridedSlice S1024x640 ![0, 1536] · slices_S1024x5888_S1024x640_0_1536) main_arg2
  let main_v2 : FVec F S32768x1024 .f32 := Host.absf main_arg0
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  let main_c : IVec S_ 1 := constantI S_ 1 1#1
  let main_v5 : IVec S_ 1 := (fun x v => Host.reduce IntOp.andi x v reducesTo_S32768x1024_S_d0_1 h_S_) main_v4 main_c
  let main_v6 : FVec F S8x2048 .f32 := Host.absf main_v0
  let main_cst_0 : FVec F S_ .f32 := constant S_ .f32 0x7F800000#32
  let main_v7 : FVec F S8x2048 .f32 := broadcastInDim S8x2048 ![] bcast_S_S8x2048 main_cst_0
  let main_v8 : IVec S8x2048 1 := cmpf .olt main_v6 main_v7
  let main_c_1 : IVec S_ 1 := constantI S_ 1 1#1
  let main_v9 : IVec S_ 1 := (fun x v => Host.reduce IntOp.andi x v reducesTo_S8x2048_S_d0_1 h_S_) main_v8 main_c_1
  let main_v10 : FVec F S1024x640 .f32 := Host.absf main_v1
  let main_cst_2 : FVec F S_ .f32 := constant S_ .f32 0x7F800000#32
  let main_v11 : FVec F S1024x640 .f32 := broadcastInDim S1024x640 ![] bcast_S_S1024x640 main_cst_2
  let main_v12 : IVec S1024x640 1 := cmpf .olt main_v10 main_v11
  let main_c_3 : IVec S_ 1 := constantI S_ 1 1#1
  let main_v13 : IVec S_ 1 := (fun x v => Host.reduce IntOp.andi x v reducesTo_S1024x640_S_d0_1 h_S_) main_v12 main_c_3
  let main_v14 : IVec S_ 1 := andi main_v5 main_v9
  let main_v15 : IVec S_ 1 := andi main_v14 main_v13
  main_v15
-- ==== Kernel.lean ====
abbrev S8x4096x512 : Shape := ⟨3, ![8, 4096, 512]⟩
abbrev S8x4096x128 : Shape := ⟨3, ![8, 4096, 128]⟩
abbrev S8x256x4x128 : Shape := ⟨4, ![8, 256, 4, 128]⟩
abbrev S8x256x2x64 : Shape := ⟨4, ![8, 256, 2, 64]⟩
abbrev S4x64 : Shape := ⟨2, ![4, 64]⟩
abbrev S128 : Shape := ⟨1, ![128]⟩
abbrev S8x256x512 : Shape := ⟨3, ![8, 256, 512]⟩
abbrev S8x4352x512 : Shape := ⟨3, ![8, 4352, 512]⟩
abbrev S8x256x128 : Shape := ⟨3, ![8, 256, 128]⟩
abbrev S8x4352x128 : Shape := ⟨3, ![8, 4352, 128]⟩
abbrev S8x4352x2x1x64 : Shape := ⟨5, ![8, 4352, 2, 1, 64]⟩
abbrev S8x4352x2x2x64 : Shape := ⟨5, ![8, 4352, 2, 2, 64]⟩
abbrev S8x4352x256 : Shape := ⟨3, ![8, 4352, 256]⟩
abbrev S_ : Shape := ⟨0, ![]⟩
abbrev S1x128 : Shape := ⟨2, ![1, 128]⟩
abbrev S1x128x512 : Shape := ⟨3, ![1, 128, 512]⟩
abbrev S1x4352x512 : Shape := ⟨3, ![1, 4352, 512]⟩
abbrev S1x4352x256 : Shape := ⟨3, ![1, 4352, 256]⟩
abbrev S128x128 : Shape := ⟨2, ![128, 128]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S1x128x128 : Shape := ⟨3, ![1, 128, 128]⟩
abbrev S256x128 : Shape := ⟨2, ![256, 128]⟩
abbrev S1x4352x128 : Shape := ⟨3, ![1, 4352, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩
abbrev S128x1 : Shape := ⟨2, ![128, 1]⟩

abbrev nBuf : Space → Nat
  | .hbm => 39
  | .vmem => 18
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x128, .f32⟩
  | .hbm, ⟨5, _⟩ => ⟨S8x4096x128, .f32⟩
  | .hbm, ⟨6, _⟩ => ⟨S8x256x4x128, .f32⟩
  | .hbm, ⟨7, _⟩ => ⟨S8x256x4x128, .f32⟩
  | .hbm, ⟨8, _⟩ => ⟨S8x256x2x64, .f32⟩
  | .hbm, ⟨9, _⟩ => ⟨S8x256x2x64, .f32⟩
  | .hbm, ⟨10, _⟩ => ⟨S4x64, .f32⟩
  | .hbm, ⟨11, _⟩ => ⟨S128, .f32⟩
  | .hbm, ⟨12, _⟩ => ⟨S8x4096x512, .bf16⟩
  | .hbm, ⟨13, _⟩ => ⟨S8x256x512, .f32⟩
  | .hbm, ⟨14, _⟩ => ⟨S8x256x512, .bf16⟩
  | .hbm, ⟨15, _⟩ => ⟨S8x4352x512, .bf16⟩
  | .hbm, ⟨16, _⟩ => ⟨S8x4096x512, .bf16⟩
  | .hbm, ⟨17, _⟩ => ⟨S8x256x512, .f32⟩
  | .hbm, ⟨18, _⟩ => ⟨S8x256x512, .bf16⟩
  | .hbm, ⟨19, _⟩ => ⟨S8x4352x512, .bf16⟩
  | .hbm, ⟨20, _⟩ => ⟨S8x4096x128, .bf16⟩
  | .hbm, ⟨21, _⟩ => ⟨S8x256x128, .f32⟩
  | .hbm, ⟨22, _⟩ => ⟨S8x256x128, .bf16⟩
  | .hbm, ⟨23, _⟩ => ⟨S8x4352x128, .bf16⟩
  | .hbm, ⟨24, _⟩ => ⟨S8x4096x128, .bf16⟩
  | .hbm, ⟨25, _⟩ => ⟨S8x256x128, .f32⟩
  | .hbm, ⟨26, _⟩ => ⟨S8x256x128, .bf16⟩
  | .hbm, ⟨27, _⟩ => ⟨S8x4352x128, .bf16⟩
  | .hbm, ⟨28, _⟩ => ⟨S8x4352x2x1x64, .bf16⟩
  | .hbm, ⟨29, _⟩ => ⟨S8x4352x2x2x64, .bf16⟩
  | .hbm, ⟨30, _⟩ => ⟨S8x4352x256, .bf16⟩
  | .hbm, ⟨31, _⟩ => ⟨S8x4352x2x1x64, .bf16⟩
  | .hbm, ⟨32, _⟩ => ⟨S_, .bf16⟩
  | .hbm, ⟨33, _⟩ => ⟨S8x4352x2x1x64, .bf16⟩
  | .hbm, ⟨34, _⟩ => ⟨S8x4352x2x2x64, .bf16⟩
  | .hbm, ⟨35, _⟩ => ⟨S8x4352x256, .bf16⟩
  | .hbm, ⟨36, _⟩ => ⟨S1x128, .f32⟩
  | .hbm, ⟨37, _⟩ => ⟨S8x4096x512, .bf16⟩
  | .hbm, ⟨38, _⟩ => ⟨S8x4096x512, .bf16⟩
  | .local _ .vmem, ⟨0, _⟩ => ⟨S1x128x512, .f32⟩
  | .local _ .vmem, ⟨1, _⟩ => ⟨S1x128x512, .f32⟩
  | .local _ .vmem, ⟨2, _⟩ => ⟨S1x4352x512, .bf16⟩
  | .local _ .vmem, ⟨3, _⟩ => ⟨S1x4352x512, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x128x512, .f32⟩
  | .local _ .vmem, ⟨7, _⟩ => ⟨S1x128x512, .f32⟩
  | .local _ .vmem, ⟨8, _⟩ => ⟨S1x4352x256, .bf16⟩
  | .local _ .vmem, ⟨9, _⟩ => ⟨S1x4352x256, .bf16⟩
  | .local _ .vmem, ⟨10, _⟩ => ⟨S1x4352x256, .bf16⟩
  | .local _ .vmem, ⟨11, _⟩ => ⟨S1x4352x256, .bf16⟩
  | .local _ .vmem, ⟨12, _⟩ => ⟨S4x64, .f32⟩
  | .local _ .vmem, ⟨13, _⟩ => ⟨S1x128, .f32⟩
  | .local _ .vmem, ⟨14, _⟩ => ⟨S1x128x512, .bf16⟩
  | .local _ .vmem, ⟨15, _⟩ => ⟨S1x128x512, .bf16⟩
  | .local _ .vmem, ⟨16, _⟩ => ⟨S1x128x512, .bf16⟩
  | .local _ .vmem, ⟨17, _⟩ => ⟨S1x128x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4352x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4352x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "attn_scale" => some (((1 / 8) * (Real.log 2)⁻¹ : ℝ) : EReal)
  | _ => none
-- ==== ReferenceIdeal.lean ====
abbrev S8x4096x512 : Shape := ⟨3, ![8, 4096, 512]⟩
abbrev S8x4096x128 : Shape := ⟨3, ![8, 4096, 128]⟩
abbrev S8x256x4x128 : Shape := ⟨4, ![8, 256, 4, 128]⟩
abbrev S8x256x2x64 : Shape := ⟨4, ![8, 256, 2, 64]⟩
abbrev S4x64 : Shape := ⟨2, ![4, 64]⟩
abbrev S128 : Shape := ⟨1, ![128]⟩
abbrev S8x4096x4x2x64 : Shape := ⟨5, ![8, 4096, 4, 2, 64]⟩
abbrev S8x4096x2x4x64 : Shape := ⟨5, ![8, 4096, 2, 4, 64]⟩
abbrev S8x256x4x2x64 : Shape := ⟨5, ![8, 256, 4, 2, 64]⟩
abbrev S8x4352x4x2x64 : Shape := ⟨5, ![8, 4352, 4, 2, 64]⟩
abbrev S8x4096x4x128 : Shape := ⟨4, ![8, 4096, 4, 128]⟩
abbrev S8x4352x4x128 : Shape := ⟨4, ![8, 4352, 4, 128]⟩
abbrev S8x4096x2x64 : Shape := ⟨4, ![8, 4096, 2, 64]⟩
abbrev S8x4352x2x64 : Shape := ⟨4, ![8, 4352, 2, 64]⟩
abbrev S1x64 : Shape := ⟨2, ![1, 64]⟩
abbrev S64 : Shape := ⟨1, ![64]⟩
abbrev S_ : Shape := ⟨0, ![]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x2x4352x4096x4 : Shape := ⟨5, ![8, 2, 4352, 4096, 4]⟩
abbrev S8x2x4x4096x4352 : Shape := ⟨5, ![8, 2, 4, 4096, 4352]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩

abbrev nBuf : Space → Nat
  | .hbm => 113
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x128, .f32⟩
  | .hbm, ⟨5, _⟩ => ⟨S8x4096x128, .f32⟩
  | .hbm, ⟨6, _⟩ => ⟨S8x256x4x128, .f32⟩
  | .hbm, ⟨7, _⟩ => ⟨S8x256x4x128, .f32⟩
  | .hbm, ⟨8, _⟩ => ⟨S8x256x2x64, .f32⟩
  | .hbm, ⟨9, _⟩ => ⟨S8x256x2x64, .f32⟩
  | .hbm, ⟨10, _⟩ => ⟨S4x64, .f32⟩
  | .hbm, ⟨11, _⟩ => ⟨S128, .f32⟩
  | .hbm, ⟨12, _⟩ => ⟨S8x4096x4x2x64, .f32⟩
  | .hbm, ⟨13, _⟩ => ⟨S8x4096x2x4x64, .f32⟩
  | .hbm, ⟨14, _⟩ => ⟨S8x4096x4x2x64, .f32⟩
  | .hbm, ⟨15, _⟩ => ⟨S8x256x4x2x64, .f32⟩
  | .hbm, ⟨16, _⟩ => ⟨S8x4352x4x2x64, .f32⟩
  | .hbm, ⟨17, _⟩ => ⟨S8x4096x4x128, .f32⟩
  | .hbm, ⟨18, _⟩ => ⟨S8x4352x4x128, .f32⟩
  | .hbm, ⟨19, _⟩ => ⟨S8x4096x2x64, .f32⟩
  | .hbm, ⟨20, _⟩ => ⟨S8x4352x2x64, .f32⟩
  | .hbm, ⟨21, _⟩ => ⟨S8x4096x2x64, .f32⟩
  | .hbm, ⟨22, _⟩ => ⟨S8x4352x2x64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x4x2x4096x4352, .f32⟩
  | .hbm, ⟨43, _⟩ => ⟨S_, .f32⟩
  | .hbm, ⟨44, _⟩ => ⟨S8x4x2x4096x4352, .f32⟩
  | .hbm, ⟨45, _⟩ => ⟨S8x4x2x4096x4352, .f32⟩
  | .hbm, ⟨46, _⟩ => ⟨S_, .f32⟩
  | .hbm, ⟨47, _⟩ => ⟨S8x4x2x4096, .f32⟩
  | .hbm, ⟨48, _⟩ => ⟨S_, .f32⟩
  | .hbm, ⟨49, _⟩ => ⟨S8x4x2x4096, .f32⟩
  | .hbm, ⟨50, _⟩ => ⟨S8x4x2x4096, .f32⟩
  | .hbm, ⟨51, _⟩ => ⟨S8x4x2x4096x1, .f32⟩
  | .hbm, ⟨52, _⟩ => ⟨S8x4x2x4096x4352, .f32⟩
  | .hbm, ⟨53, _⟩ => ⟨S8x4x2x4096x4352, .f32⟩
  | .hbm, ⟨54, _⟩ => ⟨S8x4x2x4096x4352, .f32⟩
  | .hbm, ⟨55, _⟩ => ⟨S_, .f32⟩
  | .hbm, ⟨56, _⟩ => ⟨S8x4x2x4096, .f32⟩
  | .hbm, ⟨57, _⟩ => ⟨S8x4x2x4096x1, .f32⟩
  | .hbm, ⟨58, _⟩ => ⟨S8x4x2x4096x4352, .f32⟩
  | .hbm, ⟨59, _⟩ => ⟨S8x4x2x4096x4352, .f32⟩
  | .hbm, ⟨60, _⟩ => ⟨S8x4x1x4096x4352, .f32⟩
  | .hbm, ⟨61, _⟩ => ⟨S8x4x4096x4352, .f32⟩
  | .hbm, ⟨62, _⟩ => ⟨S8x4x1x4096x4352, .f32⟩
  | .hbm, ⟨63, _⟩ => ⟨S8x4x4096x4352, .f32⟩
  | .hbm, ⟨64, _⟩ => ⟨S8x4x4096x4352, .f32⟩
  | .hbm, ⟨65, _⟩ => ⟨S8x4x4096x4352, .f32⟩
  | .hbm, ⟨66, _⟩ => ⟨S8x4x4096x4352, .f32⟩
  | .hbm, ⟨67, _⟩ => ⟨S8x4x128x4096, .f32⟩
  | .hbm, ⟨68, _⟩ => ⟨S8x4096x4x128, .f32⟩
  | .hbm, ⟨69, _⟩ => ⟨S8x4096x4x128, .f32⟩
  | .hbm, ⟨70, _⟩ => ⟨S_, .f32⟩
  | .hbm, ⟨71, _⟩ => ⟨S8x4096x4, .f32⟩
  | .hbm, ⟨72, _⟩ => ⟨S8x4096x4x1, .f32⟩
  | .hbm, ⟨73, _⟩ => ⟨S_, .f32⟩
  | .hbm, ⟨74, _⟩ => ⟨S8x4096x4x1, .f32⟩
  | .hbm, ⟨75, _⟩ => ⟨S8x4096x4x1, .f32⟩
  | .hbm, ⟨76, _⟩ => ⟨S_, .f32⟩
  | .hbm, ⟨77, _⟩ => ⟨S8x4096x4x1, .f32⟩
  | .hbm, ⟨78, _⟩ => ⟨S8x4096x4x1, .f32⟩
  | .hbm, ⟨79, _⟩ => ⟨S8x4096x4x1, .f32⟩
  | .hbm, ⟨80, _⟩ => ⟨S8x4096x4x128, .f32⟩
  | .hbm, ⟨81, _⟩ => ⟨S8x4096x4x128, .f32⟩
  | .hbm, ⟨82, _⟩ => ⟨S1x1x1x128, .f32⟩
  | .hbm, ⟨83, _⟩ => ⟨S8x4096x4x128, .f32⟩
  | .hbm, ⟨84, _⟩ => ⟨S8x4096x4x128, .f32⟩
  | .hbm, ⟨85, _⟩ => ⟨S_, .f32⟩
  | .hbm, ⟨86, _⟩ => ⟨S8x4096x4x128, .f32⟩
  | .hbm, ⟨87, _⟩ => ⟨S8x4096x4x128, .f32⟩
  | .hbm, ⟨88, _⟩ => ⟨S8x4096x512, .f32⟩
  | .hbm, ⟨89, _⟩ => ⟨S8x2x4352x4096x4, .f32⟩
  | .hbm, ⟨90, _⟩ => ⟨S8x2x4x4096x4352, .f32⟩
  | .hbm, ⟨91, _⟩ => ⟨S_, .f32⟩
  | .hbm, ⟨92, _⟩ => ⟨S8x2x4x4096x4352, .f32⟩
  | .hbm, ⟨93, _⟩ => ⟨S8x2x4x4096x4352, .f32⟩
  | .hbm, ⟨94, _⟩ => ⟨S_, .f32⟩
  | .hbm, ⟨95, _⟩ => ⟨S8x2x4x4096, .f32⟩
  | .hbm, ⟨96, _⟩ => ⟨S_, .f32⟩
  | .hbm, ⟨97, _⟩ => ⟨S8x2x4x4096, .f32⟩
  | .hbm, ⟨98, _⟩ => ⟨S8x2x4x4096, .f32⟩
  | .hbm, ⟨99, _⟩ => ⟨S8x2x4x4096x1, .f32⟩
  | .hbm, ⟨100, _⟩ => ⟨S8x2x4x4096x4352, .f32⟩
  | .hbm, ⟨101, _⟩ => ⟨S8x2x4x4096x4352, .f32⟩
  | .hbm, ⟨102, _⟩ => ⟨S8x2x4x4096x4352, .f32⟩
  | .hbm, ⟨103, _⟩ => ⟨S_, .f32⟩
  | .hbm, ⟨104, _⟩ => ⟨S8x2x4x4096, .f32⟩
  | .hbm, ⟨105, _⟩ => ⟨S8x2x4x4096x1, .f32⟩
  | .hbm, ⟨106, _⟩ => ⟨S8x2x4x4096x4352, .f32⟩
  | .hbm, ⟨107, _⟩ => ⟨S8x2x4x4096x4352, .f32⟩
  | .hbm, ⟨108, _⟩ => ⟨S8x2x64x4x4096, .f32⟩
  | .hbm, ⟨109, _⟩ => ⟨S8x4096x2x4x64, .f32⟩
  | .hbm, ⟨110, _⟩ => ⟨S8x4096x512, .f32⟩
  | .hbm, ⟨111, _⟩ => ⟨S8x4096x512, .bf16⟩
  | .hbm, ⟨112, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Kernel2.lean ====
abbrev S32768x1024 : Shape := ⟨2, ![32768, 1024]⟩
abbrev S16x6144 : Shape := ⟨2, ![16, 6144]⟩
abbrev S1024x5888 : Shape := ⟨2, ![1024, 5888]⟩
abbrev S64 : Shape := ⟨1, ![64]⟩
abbrev S4096x32 : Shape := ⟨2, ![4096, 32]⟩
abbrev S4096x32x2 : Shape := ⟨3, ![4096, 32, 2]⟩
abbrev S4096x64 : Shape := ⟨2, ![4096, 64]⟩
abbrev S_ : Shape := ⟨0, ![]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S16x1x6144 : Shape := ⟨3, ![16, 1, 6144]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S32768x512 : Shape := ⟨2, ![32768, 512]⟩
abbrev S32768x128 : Shape := ⟨2, ![32768, 128]⟩
abbrev S32768x3072 : Shape := ⟨2, ![32768, 3072]⟩
abbrev S256x1024 : Shape := ⟨2, ![256, 1024]⟩
abbrev S1x1x6144 : Shape := ⟨3, ![1, 1, 6144]⟩
abbrev S256x128 : Shape := ⟨2, ![256, 128]⟩
abbrev S256x512 : Shape := ⟨2, ![256, 512]⟩
abbrev S256x3072 : Shape := ⟨2, ![256, 3072]⟩
abbrev S1x6144 : Shape := ⟨2, ![1, 6144]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩
abbrev S128x128 : Shape := ⟨2, ![128, 128]⟩
abbrev S1024x1024 : Shape := ⟨2, ![1024, 1024]⟩

abbrev nBuf : Space → Nat
  | .hbm => 86
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S16x6144, .f32⟩
  | .hbm, ⟨2, _⟩ => ⟨S1024x5888, .f32⟩
  | .hbm, ⟨3, _⟩ => ⟨S64, .f32⟩
  | .hbm, ⟨4, _⟩ => ⟨S64, .f32⟩
  | .hbm, ⟨5, _⟩ => ⟨S4096x32, .f32⟩
  | .hbm, ⟨6, _⟩ => ⟨S4096x32, .f32⟩
  | .hbm, ⟨7, _⟩ => ⟨S4096x32x2, .f32⟩
  | .hbm, ⟨8, _⟩ => ⟨S4096x64, .f32⟩
  | .hbm, ⟨9, _⟩ => ⟨S4096x32x2, .f32⟩
  | .hbm, ⟨10, _⟩ => ⟨S4096x64, .f32⟩
  | .hbm, ⟨11, _⟩ => ⟨S64, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S_, .i32⟩
  | .hbm, ⟨27, _⟩ => ⟨S_, .i1⟩
  | .hbm, ⟨28, _⟩ => ⟨S64, .i1⟩
  | .hbm, ⟨29, _⟩ => ⟨S64, .i1⟩
  | .hbm, ⟨30, _⟩ => ⟨S64, .i1⟩
  | .hbm, ⟨31, _⟩ => ⟨S64, .i32⟩
  | .hbm, ⟨32, _⟩ => ⟨S64, .i32⟩
  | .hbm, ⟨33, _⟩ => ⟨S64, .i32⟩
  | .hbm, ⟨34, _⟩ => ⟨S_, .i32⟩
  | .hbm, ⟨35, _⟩ => ⟨S64, .i32⟩
  | .hbm, ⟨36, _⟩ => ⟨S64, .i1⟩
  | .hbm, ⟨37, _⟩ => ⟨S_, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S1x4096x1x64, .f32⟩
  | .hbm, ⟨44, _⟩ => ⟨S1x4096x2x64, .f32⟩
  | .hbm, ⟨45, _⟩ => ⟨S4096x128, .f32⟩
  | .hbm, ⟨46, _⟩ => ⟨S1x64, .f32⟩
  | .hbm, ⟨47, _⟩ => ⟨S4096x64, .f32⟩
  | .hbm, ⟨48, _⟩ => ⟨S4096x64, .f32⟩
  | .hbm, ⟨49, _⟩ => ⟨S1x4096x1x64, .f32⟩
  | .hbm, ⟨50, _⟩ => ⟨S1x4096x2x64, .f32⟩
  | .hbm, ⟨51, _⟩ => ⟨S4096x128, .f32⟩
  | .hbm, ⟨52, _⟩ => ⟨S8x8, .i32⟩
  | .hbm, ⟨53, _⟩ => ⟨S8x8, .i32⟩
  | .hbm, ⟨54, _⟩ => ⟨S_, .i32⟩
  | .hbm, ⟨55, _⟩ => ⟨S8x8, .i32⟩
  | .hbm, ⟨56, _⟩ => ⟨S8x8, .i32⟩
  | .hbm, ⟨57, _⟩ => ⟨S8x8, .i1⟩
  | .hbm, ⟨58, _⟩ => ⟨S8x8, .f32⟩
  | .hbm, ⟨59, _⟩ => ⟨S_, .f32⟩
  | .hbm, ⟨60, _⟩ => ⟨S64x64, .f32⟩
  | .hbm, ⟨61, _⟩ => ⟨S8x1x8x1, .f32⟩
  | .hbm, ⟨62, _⟩ => ⟨S1x64x1x64, .f32⟩
  | .hbm, ⟨63, _⟩ => ⟨S8x64x8x64, .f32⟩
  | .hbm, ⟨64, _⟩ => ⟨S8x64x8x64, .f32⟩
  | .hbm, ⟨65, _⟩ => ⟨S8x64x8x64, .f32⟩
  | .hbm, ⟨66, _⟩ => ⟨S512x512, .f32⟩
  | .hbm, ⟨67, _⟩ => ⟨S512x512, .bf16⟩
  | .hbm, ⟨68, _⟩ => ⟨S16x1x6144, .f32⟩
  | .hbm, ⟨69, _⟩ => ⟨S1024x5888, .bf16⟩
  | .hbm, ⟨70, _⟩ => ⟨S1x64, .f32⟩
  | .hbm, ⟨71, _⟩ => ⟨S8x64, .f32⟩
  | .hbm, ⟨72, _⟩ => ⟨S512, .f32⟩
  | .hbm, ⟨73, _⟩ => ⟨S1x512, .f32⟩
  | .hbm, ⟨74, _⟩ => ⟨S1x64, .f32⟩
  | .hbm, ⟨75, _⟩ => ⟨S2x64, .f32⟩
  | .hbm, ⟨76, _⟩ => ⟨S128, .f32⟩
  | .hbm, ⟨77, _⟩ => ⟨S1x128, .f32⟩
  | .hbm, ⟨78, _⟩ => ⟨S32768x512, .f32⟩
  | .hbm, ⟨79, _⟩ => ⟨S32768x512, .bf16⟩
  | .hbm, ⟨80, _⟩ => ⟨S32768x512, .bf16⟩
  | .hbm, ⟨81, _⟩ => ⟨S32768x512, .f32⟩
  | .hbm, ⟨82, _⟩ => ⟨S32768x128, .bf16⟩
  | .hbm, ⟨83, _⟩ => ⟨S32768x128, .bf16⟩
  | .hbm, ⟨84, _⟩ => ⟨S32768x512, .bf16⟩
  | .hbm, ⟨85, _⟩ => ⟨S32768x3072, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x5888, .bf16⟩
  | .local _ .vmem, ⟨5, _⟩ => ⟨S1x512, .f32⟩
  | .local _ .vmem, ⟨6, _⟩ => ⟨S1x128, .f32⟩
  | .local _ .vmem, ⟨7, _⟩ => ⟨S512x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x512, .bf16⟩
  | .local _ .vmem, ⟨25, _⟩ => ⟨S256x512, .bf16⟩
  | .local _ .vmem, ⟨26, _⟩ => ⟨S256x3072, .f32⟩
  | .local _ .vmem, ⟨27, _⟩ => ⟨S256x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_3 : Ref sig .tc := ⟨.hbm, 59, rfl⟩
abbrev main_v25 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38_0 : Ref sig .tc := ⟨.hbm, 78, rfl⟩
abbrev main_v38_1 : Ref sig .tc := ⟨.hbm, 79, rfl⟩
abbrev main_v38_2 : Ref sig .tc := ⟨.hbm, 80, rfl⟩
abbrev main_v38_3 : Ref sig .tc := ⟨.hbm, 81, rfl⟩
abbrev main_v38_4 : Ref sig .tc := ⟨.hbm, 82, rfl⟩
abbrev main_v38_5 : Ref sig .tc := ⟨.hbm, 83, rfl⟩
abbrev main_v38_6 : Ref sig .tc := ⟨.hbm, 84, rfl⟩
abbrev main_v38_7 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S32768x1024 : Shape := ⟨2, ![32768, 1024]⟩
abbrev S16x6144 : Shape := ⟨2, ![16, 6144]⟩
abbrev S1024x5888 : Shape := ⟨2, ![1024, 5888]⟩
abbrev S64 : Shape := ⟨1, ![64]⟩
abbrev S4096x32 : Shape := ⟨2, ![4096, 32]⟩
abbrev S8x4096x1024 : Shape := ⟨3, ![8, 4096, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x5888 : Shape := ⟨3, ![8, 4096, 5888]⟩
abbrev S8x4096x512 : Shape := ⟨3, ![8, 4096, 512]⟩
abbrev S8x4096x128 : Shape := ⟨3, ![8, 4096, 128]⟩
abbrev S8x4096x3072 : Shape := ⟨3, ![8, 4096, 3072]⟩
abbrev S8x4096x8x64 : Shape := ⟨4, ![8, 4096, 8, 64]⟩
abbrev S8x4096x8x32x2 : Shape := ⟨5, ![8, 4096, 8, 32, 2]⟩
abbrev S8x4096x8x32x1 : Shape := ⟨5, ![8, 4096, 8, 32, 1]⟩
abbrev S8x4096x8x32 : Shape := ⟨4, ![8, 4096, 8, 32]⟩
abbrev S1x4096x1x32 : Shape := ⟨4, ![1, 4096, 1, 32]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32x2 : Shape := ⟨5, ![8, 4096, 2, 32, 2]⟩
abbrev S8x4096x2x32x1 : Shape := ⟨5, ![8, 4096, 2, 32, 1]⟩
abbrev S8x4096x2x32 : Shape := ⟨4, ![8, 4096, 2, 32]⟩
abbrev S32768x512 : Shape := ⟨2, ![32768, 512]⟩
abbrev S32768x128 : Shape := ⟨2, ![32768, 128]⟩
abbrev S32768x3072 : Shape := ⟨2, ![32768, 3072]⟩

abbrev nBuf : Space → Nat
  | .hbm => 190
  | .vmem => 0
  | .smem => 0
  | _ => 0

abbrev hbmTy0_0 (i : Nat) : BufTy := match i % 128 with
  | 0 => ⟨S32768x1024, .f32⟩
  | 1 => ⟨S16x6144, .f32⟩
  | 2 => ⟨S1024x5888, .f32⟩
  | 3 => ⟨S64, .f32⟩
  | 4 => ⟨S64, .f32⟩
  | 5 => ⟨S4096x32, .f32⟩
  | 6 => ⟨S4096x32, .f32⟩
  | 7 => ⟨S8x4096x1024, .f32⟩
  | 8 => ⟨S8x1024, .f32⟩
  | 9 => ⟨S8x1x1024, .f32⟩
  | 10 => ⟨S8x1024, .f32⟩
  | 11 => ⟨S8x1x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S8x4096x1024, .f32⟩
  | 19 => ⟨S8x4096x1024, .f32⟩
  | 20 => ⟨S8x4096x1024, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S_, .f32⟩
  | 28 => ⟨S8x4096x1, .f32⟩
  | 29 => ⟨S8x4096x1, .f32⟩
  | 30 => ⟨S8x4096x1, .f32⟩
  | 31 => ⟨S8x4096x1024, .f32⟩
  | 32 => ⟨S8x4096x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S8x4096x5888, .f32⟩
  | 41 => ⟨S8x4096x512, .f32⟩
  | 42 => ⟨S8x4096x512, .f32⟩
  | 43 => ⟨S8x4096x512, .f32⟩
  | 44 => ⟨S8x4096x512, .f32⟩
  | 45 => ⟨S8x4096x128, .f32⟩
  | 46 => ⟨S8x4096x128, .f32⟩
  | 47 => ⟨S8x4096x512, .f32⟩
  | 48 => ⟨S8x4096x3072, .f32⟩
  | 49 => ⟨S8x4096x8x64, .f32⟩
  | 50 => ⟨S8x4096x8x32x2, .f32⟩
  | 51 => ⟨S8x4096x8x32x1, .f32⟩
  | 52 => ⟨S8x4096x8x32, .f32⟩
  | 53 => ⟨S8x4096x8x32x1, .f32⟩
  | 54 => ⟨S8x4096x8x32, .f32⟩
  | 55 => ⟨S1x4096x1x32, .f32⟩
  | 56 => ⟨S1x4096x1x32, .f32⟩
  | 57 => ⟨S8x4096x8x32, .f32⟩
  | 58 => ⟨S8x4096x8x32, .f32⟩
  | 59 => ⟨S8x4096x8x32, .f32⟩
  | 60 => ⟨S8x4096x8x32, .f32⟩
  | 61 => ⟨S8x4096x8x32, .f32⟩
  | 62 => ⟨S8x4096x8x32, .f32⟩
  | 63 => ⟨S8x4096x8x32, .f32⟩
  | 64 => ⟨S8x4096x8x32, .f32⟩
  | 65 => ⟨S8x4096x8x32, .f32⟩
  | 66 => ⟨S8x4096x8x32, .f32⟩
  | 67 => ⟨S8x4096x8x32x1, .f32⟩
  | 68 => ⟨S8x4096x8x32x1, .f32⟩
  | 69 => ⟨S8x4096x8x32x2, .f32⟩
  | 70 => ⟨S8x4096x8x64, .f32⟩
  | 71 => ⟨S8x4096x8x64, .f32⟩
  | 72 => ⟨S8x4096x8x32x2, .f32⟩
  | 73 => ⟨S8x4096x8x32x1, .f32⟩
  | 74 => ⟨S8x4096x8x32, .f32⟩
  | 75 => ⟨S8x4096x8x32x1, .f32⟩
  | 76 => ⟨S8x4096x8x32, .f32⟩
  | 77 => ⟨S1x4096x1x32, .f32⟩
  | 78 => ⟨S1x4096x1x32, .f32⟩
  | 79 => ⟨S8x4096x8x32, .f32⟩
  | 80 => ⟨S8x4096x8x32, .f32⟩
  | 81 => ⟨S8x4096x8x32, .f32⟩
  | 82 => ⟨S8x4096x8x32, .f32⟩
  | 83 => ⟨S8x4096x8x32, .f32⟩
  | 84 => ⟨S8x4096x8x32, .f32⟩
  | 85 => ⟨S8x4096x8x32, .f32⟩
  | 86 => ⟨S8x4096x8x32, .f32⟩
  | 87 => ⟨S8x4096x8x32, .f32⟩
  | 88 => ⟨S8x4096x8x32, .f32⟩
  | 89 => ⟨S8x4096x8x32x1, .f32⟩
  | 90 => ⟨S8x4096x8x32x1, .f32⟩
  | 91 => ⟨S8x4096x8x32x2, .f32⟩
  | 92 => ⟨S8x4096x8x64, .f32⟩
  | 93 => ⟨S8x4096x8x64, .f32⟩
  | 94 => ⟨S8x4096x8x64, .f32⟩
  | 95 => ⟨S_, .f32⟩
  | 96 => ⟨S8x4096x8, .f32⟩
  | 97 => ⟨S8x4096x8x1, .f32⟩
  | 98 => ⟨S_, .f32⟩
  | 99 => ⟨S8x4096x8x1, .f32⟩
  | 100 => ⟨S8x4096x8x1, .f32⟩
  | 101 => ⟨S_, .f32⟩
  | 102 => ⟨S8x4096x8x1, .f32⟩
  | 103 => ⟨S8x4096x8x1, .f32⟩
  | 104 => ⟨S8x4096x8x1, .f32⟩
  | 105 => ⟨S8x4096x8x64, .f32⟩
  | 106 => ⟨S8x4096x8x64, .f32⟩
  | 107 => ⟨S1x1x1x64, .f32⟩
  | 108 => ⟨S8x4096x8x64, .f32⟩
  | 109 => ⟨S8x4096x8x64, .f32⟩
  | 110 => ⟨S8x4096x8x32x2, .f32⟩
  | 111 => ⟨S8x4096x8x32x1, .f32⟩
  | 112 => ⟨S8x4096x8x32, .f32⟩
  | 113 => ⟨S8x4096x8x32x1, .f32⟩
  | 114 => ⟨S8x4096x8x32, .f32⟩
  | 115 => ⟨S1x4096x1x32, .f32⟩
  | 116 => ⟨S1x4096x1x32, .f32⟩
  | 117 => ⟨S8x4096x8x32, .f32⟩
  | 118 => ⟨S8x4096x8x32, .f32⟩
  | 119 => ⟨S8x4096x8x32, .f32⟩
  | 120 => ⟨S8x4096x8x32, .f32⟩
  | 121 => ⟨S8x4096x8x32, .f32⟩
  | 122 => ⟨S8x4096x8x32, .f32⟩
  | 123 => ⟨S8x4096x8x32, .f32⟩
  | 124 => ⟨S8x4096x8x32, .f32⟩
  | 125 => ⟨S8x4096x8x32, .f32⟩
  | 126 => ⟨S8x4096x8x32, .f32⟩
  | 127 => ⟨S8x4096x8x32x1, .f32⟩
  | _ => ⟨S32768x1024, .f32⟩

abbrev hbmTy0_1 (i : Nat) : BufTy := match i % 128 with
  | 0 => ⟨S8x4096x8x32x1, .f32⟩
  | 1 => ⟨S8x4096x8x32x2, .f32⟩
  | 2 => ⟨S8x4096x8x64, .f32⟩
  | 3 => ⟨S8x4096x2x64, .f32⟩
  | 4 => ⟨S8x4096x2x64, .f32⟩
  | 5 => ⟨S_, .f32⟩
  | 6 => ⟨S8x4096x2, .f32⟩
  | 7 => ⟨S8x4096x2x1, .f32⟩
  | 8 => ⟨S_, .f32⟩
  | 9 => ⟨S8x4096x2x1, .f32⟩
  | 10 => ⟨S8x4096x2x1, .f32⟩
  | 11 => ⟨S_, .f32⟩
  | 12 => ⟨S8x4096x2x1, .f32⟩
  | 13 => ⟨S8x4096x2x1, .f32⟩
  | 14 => ⟨S8x4096x2x1, .f32⟩
  | 15 => ⟨S8x4096x2x64, .f32⟩
  | 16 => ⟨S8x4096x2x64, .f32⟩
  | 17 => ⟨S1x1x1x64, .f32⟩
  | 18 => ⟨S8x4096x2x64, .f32⟩
  | 19 => ⟨S8x4096x2x64, .f32⟩
  | 20 => ⟨S8x4096x2x32x2, .f32⟩
  | 21 => ⟨S8x4096x2x32x1, .f32⟩
  | 22 => ⟨S8x4096x2x32, .f32⟩
  | 23 => ⟨S8x4096x2x32x1, .f32⟩
  | 24 => ⟨S8x4096x2x32, .f32⟩
  | 25 => ⟨S1x4096x1x32, .f32⟩
  | 26 => ⟨S1x4096x1x32, .f32⟩
  | 27 => ⟨S8x4096x2x32, .f32⟩
  | 28 => ⟨S8x4096x2x32, .f32⟩
  | 29 => ⟨S8x4096x2x32, .f32⟩
  | 30 => ⟨S8x4096x2x32, .f32⟩
  | 31 => ⟨S8x4096x2x32, .f32⟩
  | 32 => ⟨S8x4096x2x32, .f32⟩
  | 33 => ⟨S8x4096x2x32, .f32⟩
  | 34 => ⟨S8x4096x2x32, .f32⟩
  | 35 => ⟨S8x4096x2x32, .f32⟩
  | 36 => ⟨S8x4096x2x32, .f32⟩
  | 37 => ⟨S8x4096x2x32x1, .f32⟩
  | 38 => ⟨S8x4096x2x32x1, .f32⟩
  | 39 => ⟨S8x4096x2x32x2, .f32⟩
  | 40 => ⟨S8x4096x2x64, .f32⟩
  | 41 => ⟨S32768x512, .f32⟩
  | 42 => ⟨S32768x512, .f32⟩
  | 43 => ⟨S32768x512, .bf16⟩
  | 44 => ⟨S32768x512, .f32⟩
  | 45 => ⟨S32768x512, .bf16⟩
  | 46 => ⟨S32768x512, .f32⟩
  | 47 => ⟨S32768x128, .f32⟩
  | 48 => ⟨S32768x128, .bf16⟩
  | 49 => ⟨S32768x128, .f32⟩
  | 50 => ⟨S32768x128, .bf16⟩
  | 51 => ⟨S32768x512, .f32⟩
  | 52 => ⟨S32768x512, .bf16⟩
  | 53 => ⟨S8x4096x3072, .f32⟩
  | 54 => ⟨S8x4096x3072, .f32⟩
  | 55 => ⟨S_, .f32⟩
  | 56 => ⟨S8x4096x3072, .f32⟩
  | 57 => ⟨S8x4096x3072, .f32⟩
  | 58 => ⟨S_, .f32⟩
  | 59 => ⟨S8x4096x3072, .f32⟩
  | 60 => ⟨S8x4096x3072, .f32⟩
  | 61 => ⟨S32768x3072, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_5 : Ref sig .tc := ⟨.hbm, 95, rfl⟩
abbrev main_v82 : Ref sig .tc := ⟨.hbm, 96, rfl⟩
abbrev main_v83 : Ref sig .tc := ⟨.hbm, 97, rfl⟩
abbrev main_cst_6 : Ref sig .tc := ⟨.hbm, 98, rfl⟩
abbrev main_v84 : Ref sig .tc := ⟨.hbm, 99, rfl⟩
abbrev main_v85 : Ref sig .tc := ⟨.hbm, 100, rfl⟩
abbrev main_cst_7 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_cst_8 : Ref sig .tc := ⟨.hbm, 133, rfl⟩
abbrev main_v117 : Ref sig .tc := ⟨.hbm, 134, rfl⟩
abbrev main_v118 : Ref sig .tc := ⟨.hbm, 135, rfl⟩
abbrev main_cst_9 : Ref sig .tc := ⟨.hbm, 136, rfl⟩
abbrev main_v119 : Ref sig .tc := ⟨.hbm, 137, rfl⟩
abbrev main_v120 : Ref sig .tc := ⟨.hbm, 138, rfl⟩
abbrev main_cst_10 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_cst_11 : Ref sig .tc := ⟨.hbm, 183, rfl⟩
abbrev main_v164 : Ref sig .tc := ⟨.hbm, 184, rfl⟩
abbrev main_v165 : Ref sig .tc := ⟨.hbm, 185, rfl⟩
abbrev main_cst_12 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩

abbrev nD : Nat := 1
abbrev τ : Topo := Topo.v7x

variable {F : FTy → Type} [FloatOps F]
-- ==== Kernel3.lean ====
abbrev S32768x512 : Shape := ⟨2, ![32768, 512]⟩
abbrev S32768x3072 : Shape := ⟨2, ![32768, 3072]⟩
abbrev S32768x1024 : Shape := ⟨2, ![32768, 1024]⟩
abbrev S16x6144 : Shape := ⟨2, ![16, 6144]⟩
abbrev S3x512x1024 : Shape := ⟨3, ![3, 512, 1024]⟩
abbrev S1024x1024 : Shape := ⟨2, ![1024, 1024]⟩
abbrev S2x1024 : Shape := ⟨2, ![2, 1024]⟩
abbrev S16x1x6144 : Shape := ⟨3, ![16, 1, 6144]⟩
abbrev S1x1024 : Shape := ⟨2, ![1, 1024]⟩
abbrev S1024 : Shape := ⟨1, ![1024]⟩
abbrev S512x512 : Shape := ⟨2, ![512, 512]⟩
abbrev S512x3072 : Shape := ⟨2, ![512, 3072]⟩
abbrev S512x1024 : Shape := ⟨2, ![512, 1024]⟩
abbrev S1x1x6144 : Shape := ⟨3, ![1, 1, 6144]⟩
abbrev S1x512x1024 : Shape := ⟨3, ![1, 512, 1024]⟩
abbrev S1x6144 : Shape := ⟨2, ![1, 6144]⟩
abbrev S512 : Shape := ⟨1, ![512]⟩
abbrev S512x1 : Shape := ⟨2, ![512, 1]⟩

abbrev nBuf : Space → Nat
  | .hbm => 20
  | .vmem => 18
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x3072, .f32⟩
  | .hbm, ⟨4, _⟩ => ⟨S32768x1024, .f32⟩
  | .hbm, ⟨5, _⟩ => ⟨S16x6144, .f32⟩
  | .hbm, ⟨6, _⟩ => ⟨S3x512x1024, .f32⟩
  | .hbm, ⟨7, _⟩ => ⟨S1024x1024, .f32⟩
  | .hbm, ⟨8, _⟩ => ⟨S2x1024, .f32⟩
  | .hbm, ⟨9, _⟩ => ⟨S2x1024, .f32⟩
  | .hbm, ⟨10, _⟩ => ⟨S16x1x6144, .f32⟩
  | .hbm, ⟨11, _⟩ => ⟨S3x512x1024, .bf16⟩
  | .hbm, ⟨12, _⟩ => ⟨S1024x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .f32⟩
  | .local _ .vmem, ⟨7, _⟩ => ⟨S512x3072, .f32⟩
  | .local _ .vmem, ⟨8, _⟩ => ⟨S512x1024, .f32⟩
  | .local _ .vmem, ⟨9, _⟩ => ⟨S512x1024, .f32⟩
  | .local _ .vmem, ⟨10, _⟩ => ⟨S1x1x6144, .f32⟩
  | .local _ .vmem, ⟨11, _⟩ => ⟨S1x1x6144, .f32⟩
  | .local _ .vmem, ⟨12, _⟩ => ⟨S3x512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32768x512 : Shape := ⟨2, ![32768, 512]⟩
abbrev S32768x3072 : Shape := ⟨2, ![32768, 3072]⟩
abbrev S32768x1024 : Shape := ⟨2, ![32768, 1024]⟩
abbrev S16x6144 : Shape := ⟨2, ![16, 6144]⟩
abbrev S3x512x1024 : Shape := ⟨3, ![3, 512, 1024]⟩
abbrev S1024x1024 : Shape := ⟨2, ![1024, 1024]⟩
abbrev S2x1024 : Shape := ⟨2, ![2, 1024]⟩
abbrev S8x4096x512 : Shape := ⟨3, ![8, 4096, 512]⟩
abbrev S8x4096x1x512 : Shape := ⟨4, ![8, 4096, 1, 512]⟩
abbrev S8x4096x3x512 : Shape := ⟨4, ![8, 4096, 3, 512]⟩
abbrev S3x1024x8x4096 : Shape := ⟨4, ![3, 1024, 8, 4096]⟩
abbrev S8x4096x3x1024 : Shape := ⟨4, ![8, 4096, 3, 1024]⟩
abbrev S_ : Shape := ⟨0, ![]⟩
abbrev S8x4096x1024 : Shape := ⟨3, ![8, 4096, 1024]⟩
abbrev S8x1024 : Shape := ⟨2, ![8, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x3072, .f32⟩
  | .hbm, ⟨4, _⟩ => ⟨S32768x1024, .f32⟩
  | .hbm, ⟨5, _⟩ => ⟨S16x6144, .f32⟩
  | .hbm, ⟨6, _⟩ => ⟨S3x512x1024, .f32⟩
  | .hbm, ⟨7, _⟩ => ⟨S1024x1024, .f32⟩
  | .hbm, ⟨8, _⟩ => ⟨S2x1024, .f32⟩
  | .hbm, ⟨9, _⟩ => ⟨S2x1024, .f32⟩
  | .hbm, ⟨10, _⟩ => ⟨S8x4096x512, .bf16⟩
  | .hbm, ⟨11, _⟩ => ⟨S8x4096x512, .bf16⟩
  | .hbm, ⟨12, _⟩ => ⟨S8x4096x512, .bf16⟩
  | .hbm, ⟨13, _⟩ => ⟨S8x4096x1x512, .bf16⟩
  | .hbm, ⟨14, _⟩ => ⟨S8x4096x1x512, .bf16⟩
  | .hbm, ⟨15, _⟩ => ⟨S8x4096x1x512, .bf16⟩
  | .hbm, ⟨16, _⟩ => ⟨S8x4096x3x512, .bf16⟩
  | .hbm, ⟨17, _⟩ => ⟨S8x4096x3x512, .f32⟩
  | .hbm, ⟨18, _⟩ => ⟨S3x1024x8x4096, .f32⟩
  | .hbm, ⟨19, _⟩ => ⟨S8x4096x3x1024, .f32⟩
  | .hbm, ⟨20, _⟩ => ⟨S8x4096x3x1024, .f32⟩
  | .hbm, ⟨21, _⟩ => ⟨S8x4096x3x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1024, .f32⟩
  | .hbm, ⟨56, _⟩ => ⟨S1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S1x1024, .f32⟩
  | .hbm, ⟨61, _⟩ => ⟨S1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.AttnMath.lean ====
module
public import Idealize.ShloMosaic.Lib.Pipeline.ValueKit
@[expose] public section

/-! The arithmetic of one attention row over the extended reals. A row's scores are real; its softmax weights do not
    depend on the number that is subtracted before the exponential, and not on whether the power is taken of 2 or of e. -/

noncomputable section
namespace Cert.Attn
open Idealize.ShloMosaic
open scoped BigOperators

/-- The largest of finitely many reals, taken from minus infinity up, is a real. -/
theorem fold_real {n : ℕ} (S : Fin (n + 1) → EReal) (s : Fin (n + 1) → ℝ) (h : ∀ k, S k = (s k : EReal)) :
    ∃ T : ℝ, Finset.univ.fold max (⊥ : EReal) S = (T : EReal) := by
  have key : ∀ u : Finset (Fin (n + 1)), u.Nonempty → ∃ T : ℝ, u.fold max (⊥ : EReal) S = (T : EReal) := by
    intro u hu
    induction hu using Finset.Nonempty.cons_induction with
    | singleton a => exact ⟨s a, by simp [h]⟩
    | cons a u ha _ ih =>
      obtain ⟨T, hT⟩ := ih
      refine ⟨max (s a) T, ?_⟩
      rw [Finset.fold_cons, hT, h]
      rcases le_total (s a) T with hle | hle
      · rw [max_eq_right hle, max_eq_right (EReal.coe_le_coe_iff.mpr hle)]
      · rw [max_eq_left hle, max_eq_left (EReal.coe_le_coe_iff.mpr hle)]
  exact key _ Finset.univ_nonempty

/-- A sum of reals, taken in the extended reals, is the sum of the reals. -/
theorem sum_coe {ι : Type*} (u : Finset ι) (f : ι → ℝ) : ∑ k ∈ u, (f k : EReal) = ((∑ k ∈ u, f k : ℝ) : EReal) := by
  classical
  induction u using Finset.induction_on with
  | empty => simp
  | insert a u ha ih => rw [Finset.sum_insert ha, Finset.sum_insert ha, ih, EReal.coe_add]

/-- A real that is not negative may be multiplied into a sum of extended reals. -/
theorem sum_mul_coe {ι : Type*} (u : Finset ι) (f : ι → EReal) (c : ℝ) (hc : 0 ≤ c) :
    (∑ k ∈ u, f k) * (c : EReal) = ∑ k ∈ u, f k * (c : EReal) := by
  classical
  induction u using Finset.induction_on with
  | empty => simp
  | insert a u ha ih =>
    rw [Finset.sum_insert ha, Finset.sum_insert ha, ← ih,
      EReal.right_distrib_of_nonneg_of_ne_top (EReal.coe_nonneg.mpr hc) (EReal.coe_ne_top c)]

/-- The softmax weight of position `k` among the scores `z`. -/
def weight {n : ℕ} (z : Fin n → ℝ) (k : Fin n) : ℝ := Real.exp (z k) / ∑ j, Real.exp (z j)

theorem total_pos {n : ℕ} (z : Fin (n + 1) → ℝ) : 0 < ∑ j, Real.exp (z j) :=
  Finset.sum_pos (fun j _ => Real.exp_pos _) Finset.univ_nonempty

theorem weight_nonneg {n : ℕ} (z : Fin (n + 1) → ℝ) (k : Fin (n + 1)) : 0 ≤ weight z k :=
  div_nonneg (Real.exp_pos _).le (total_pos z).le

/-- Powers of 2 of scores divided by `log 2`, shifted by their maximum, are the exponentials times one positive real. -/
theorem powers {n : ℕ} (S : Fin (n + 1) → EReal) (z : Fin (n + 1) → ℝ)
    (h : ∀ k, S k = ((z k * (Real.log 2)⁻¹ : ℝ) : EReal)) :
    ∃ t : ℝ, 0 < t ∧ ∀ k, Ideal.exp2 (S k - Finset.univ.fold max (⊥ : EReal) S) = ((Real.exp (z k) * t : ℝ) : EReal) := by
  obtain ⟨T, hT⟩ := fold_real S _ h
  refine ⟨Real.exp (-(T * Real.log 2)), Real.exp_pos _, fun k => ?_⟩
  have hl : Real.log 2 ≠ 0 := (Real.log_pos (by norm_num)).ne'
  rw [hT, h, ← EReal.coe_sub, Ideal.exp2_coe]
  congr 1
  rw [show Real.rpow 2 (z k * (Real.log 2)⁻¹ - T) = (2 : ℝ) ^ (z k * (Real.log 2)⁻¹ - T) from rfl,
    Real.rpow_def_of_pos (by norm_num), ← Real.exp_add]
  congr 1
  field_simp
  ring

/-- Exponentials shifted by the maximum are the exponentials times one positive real. -/
theorem exps {n : ℕ} (S : Fin (n + 1) → EReal) (z : Fin (n + 1) → ℝ) (h : ∀ k, S k = (z k : EReal)) :
    ∃ t : ℝ, 0 < t ∧ ∀ k, Ideal.exp (S k - max ⊥ (Finset.univ.fold max (⊥ : EReal) S))
      = ((Real.exp (z k) * t : ℝ) : EReal) := by
  obtain ⟨T, hT⟩ := fold_real S _ h
  refine ⟨Real.exp (-T), Real.exp_pos _, fun k => ?_⟩
  rw [hT, h, max_eq_right bot_le, ← EReal.coe_sub, Ideal.exp_coe, ← Real.exp_add]
  rfl

/-- The reference's softmax: its exponentials over their total. -/
theorem softmax {n : ℕ} (S : Fin (n + 1) → EReal) (z : Fin (n + 1) → ℝ) (h : ∀ k, S k = (z k : EReal))
    (k : Fin (n + 1)) :
    Ideal.div (Ideal.exp (S k - max ⊥ (Finset.univ.fold max (⊥ : EReal) S)))
      (∑ j, Ideal.exp (S j - max ⊥ (Finset.univ.fold max (⊥ : EReal) S))) = (weight z k : EReal) := by
  obtain ⟨t, ht, he⟩ := exps S z h
  have hz := total_pos z
  simp only [he]
  rw [sum_coe, ← Finset.sum_mul, Ideal.div_coe (by positivity), ← EReal.coe_mul]
  congr 1
  rw [weight]
  field_simp

/-- A row of values averaged with unnormalised powers of 2 and divided by their total afterwards. -/
theorem average {n : ℕ} (S : Fin (n + 1) → EReal) (z v : Fin (n + 1) → ℝ)
    (h : ∀ k, S k = ((z k * (Real.log 2)⁻¹ : ℝ) : EReal)) :
    (∑ k, Ideal.exp2 (S k - Finset.univ.fold max (⊥ : EReal) S) * (v k : EReal))
      * Ideal.div 1 (∑ k, Ideal.exp2 (S k - Finset.univ.fold max (⊥ : EReal) S))
      = ((∑ k, weight z k * v k : ℝ) : EReal) := by
  obtain ⟨t, ht, he⟩ := powers S z h
  have hz := total_pos z
  simp only [he, ← EReal.coe_mul]
  rw [sum_coe, sum_coe, ← Finset.sum_mul, Ideal.div_coe (by positivity), one_mul, ← EReal.coe_mul, Finset.sum_mul]
  congr 1
  refine Finset.sum_congr rfl fun k _ => ?_
  rw [weight]
  field_simp

/-- The same with a real factor that is multiplied into the total's inverse first. -/
theorem average_scaled {n : ℕ} (S : Fin (n + 1) → EReal) (z v : Fin (n + 1) → ℝ) (lam : ℝ)
    (h : ∀ k, S k = ((z k * (Real.log 2)⁻¹ : ℝ) : EReal)) :
    (∑ k, Ideal.exp2 (S k - Finset.univ.fold max (⊥ : EReal) S) * (v k : EReal))
      * ((lam : EReal) * Ideal.div 1 (∑ k, Ideal.exp2 (S k - Finset.univ.fold max (⊥ : EReal) S)))
      = ((lam * ∑ k, weight z k * v k : ℝ) : EReal) := by
  rw [mul_left_comm, average S z v h, EReal.coe_mul]

/-- A row of values averaged with unnormalised powers of 2, the total being carried along as one more column of ones.
    The values need not be finite. -/
theorem average_ones {n : ℕ} (S v o : Fin (n + 1) → EReal) (z : Fin (n + 1) → ℝ)
    (h : ∀ k, S k = ((z k * (Real.log 2)⁻¹ : ℝ) : EReal)) (ho : ∀ k, o k = 1) :
    Ideal.div (∑ k, Ideal.exp2 (S k - Finset.univ.fold max (⊥ : EReal) S) * v k)
      (∑ k, Ideal.exp2 (S k - Finset.univ.fold max (⊥ : EReal) S) * o k)
      = ∑ k, v k * (weight z k : EReal) := by
  obtain ⟨t, ht, he⟩ := powers S z h
  have hz := total_pos z
  simp only [he, ho, mul_one]
  rw [sum_coe, ← Finset.sum_mul, Ideal.div_coe (by positivity), sum_mul_coe _ _ _ (by positivity)]
  refine Finset.sum_congr rfl fun k _ => ?_
  rw [mul_comm _ (v k), mul_assoc, ← EReal.coe_mul]
  congr 2
  rw [weight]
  field_simp

/-- The difference of two averages is the average with the difference of the weights. -/
theorem difference {n : ℕ} (w₀ w₁ v : Fin n → ℝ) (lam : ℝ) :
    ((∑ k, w₀ k * v k : ℝ) : EReal) - ((lam * ∑ k, w₁ k * v k : ℝ) : EReal)
      = ∑ k, (v k : EReal) * ((w₀ k : EReal) - (lam : EReal) * (w₁ k : EReal)) := by
  simp only [← EReal.coe_mul, ← EReal.coe_sub]
  rw [sum_coe, Finset.mul_sum, ← Finset.sum_sub_distrib]
  congr 1
  exact Finset.sum_congr rfl fun k _ => by ring

/-- Of 128 products the lower half is kept by a mask: what remains is the sum of the lower 64. -/
theorem dot_lo (a : Fin 128 → EReal) (b : Fin 64 → EReal)
    (h0 : ∀ j : Fin 64, a ⟨j.val, by omega⟩ = b j) (h1 : ∀ j : Fin 64, a ⟨64 + j.val, by omega⟩ = 0) :
    ∑ l, a l = ∑ j, b j := by
  rw [show (∑ l : Fin 128, a l) = ∑ l : Fin (64 + 64), a l from rfl, Fin.sum_univ_add]
  rw [show (∑ j : Fin 64, a (Fin.natAdd 64 j)) = 0 from Finset.sum_eq_zero fun j _ => h1 j, add_zero]
  exact Finset.sum_congr rfl fun j _ => h0 j

/-- The same for the upper half. -/
theorem dot_hi (a : Fin 128 → EReal) (b : Fin 64 → EReal)
    (h0 : ∀ j : Fin 64, a ⟨j.val, by omega⟩ = 0) (h1 : ∀ j : Fin 64, a ⟨64 + j.val, by omega⟩ = b j) :
    ∑ l, a l = ∑ j, b j := by
  rw [show (∑ l : Fin 128, a l) = ∑ l : Fin (64 + 64), a l from rfl, Fin.sum_univ_add]
  rw [show (∑ j : Fin 64, a (Fin.castAdd 64 j)) = 0 from Finset.sum_eq_zero fun j _ => h0 j, zero_add]
  exact Finset.sum_congr rfl fun j _ => h1 j

/-- The scaled scores of one query of 64 numbers against a list of keys. -/
def score {n : ℕ} (q : Fin 64 → ℝ) (k : Fin n → Fin 64 → ℝ) (i : Fin n) : ℝ := (∑ j, q j * k i j) / 8

/-- The root-mean-square norm of a row of 128, with the norm's gain and the factor `1 - lambda` behind it. -/
def rms (d : Fin 128 → EReal) (g : EReal) (x : Fin 128) : EReal :=
  d x * Ideal.rsqrt (Ideal.div (∑ y, d y * d y) (Ideal.ofBits .f32 0x43000000#32) + Ideal.ofBits .f32 0x358637BD#32)
    * g * Ideal.ofBits .f32 0x3F4CCCCD#32

/-- One head of the differential attention for one query row: two softmaxes, their difference weighted by `lam`, the
    average of the values, the norm. -/
def diffHead {n : ℕ} (q₀ q₁ : Fin 64 → ℝ) (k₀ k₁ : Fin n → Fin 64 → ℝ) (v : Fin n → Fin 128 → ℝ) (lam : ℝ)
    (g : EReal) (x : Fin 128) : EReal :=
  rms (fun y => ∑ i, (v i y : EReal) * ((weight (score q₀ k₀) i : EReal) - (lam : EReal) * (weight (score q₁ k₁) i : EReal)))
    g x

/-- One head of the grouped-query attention for one query row, read at one lane of the values. -/
def groupHead {n : ℕ} (q : Fin 64 → ℝ) (k : Fin n → Fin 64 → ℝ) (v : Fin n → EReal) : EReal :=
  ∑ i, v i * (weight (score q k) i : EReal)

/-- Own rows followed by context rows. -/
def joined {α : Type} (own : Fin 4096 → α) (ctx : Fin 256 → α) (i : Fin 4352) : α :=
  if h : i.val < 4096 then own ⟨i.val, h⟩ else ctx ⟨i.val - 4096, by omega⟩

theorem joined_coe (own : Fin 4096 → ℝ) (ctx : Fin 256 → ℝ) (i : Fin 4352) :
    joined (fun t => (own t : EReal)) (fun t => (ctx t : EReal)) i = ((joined own ctx i : ℝ) : EReal) := by
  unfold joined; split <;> rfl

/-- Lane `j` of half `m` of a head of 128 lanes. -/
def half (m : Fin 2) (j : Fin 64) : Fin 128 := ⟨m.val * 64 + j.val, by omega⟩

/-- Lane `x` of head `h` among four heads of 128 lanes. -/
def lane (h : Fin 4) (x : Fin 128) : Fin 512 := ⟨h.val * 128 + x.val, by omega⟩

/-- Lane `x` of head `h` among eight heads of 64 lanes. -/
def qlane (h : Fin 8) (x : Fin 64) : Fin 512 := ⟨h.val * 64 + x.val, by omega⟩

/-- The group of keys and values that query head `h` reads. -/
def grp (h : Fin 8) : Fin 2 := ⟨h.val / 4, by omega⟩

/-- Lane `x` of key group `g`. -/
def klane (g : Fin 2) (x : Fin 64) : Fin 128 := ⟨g.val * 64 + x.val, by omega⟩

/-- The differential attention of every batch, token, head and lane. -/
def diffOut (Q K V : Fin 8 → Fin 4096 → Fin 512 → ℝ) (CK CV : Fin 8 → Fin 256 → Fin 4 → Fin 128 → ℝ) (L : ℝ)
    (g : Fin 128 → EReal) (b : Fin 8) (t : Fin 4096) (h : Fin 4) (x : Fin 128) : EReal :=
  diffHead (fun j => Q b t (lane h (half 0 j))) (fun j => Q b t (lane h (half 1 j)))
    (fun i j => joined (fun k => K b k (lane h (half 0 j))) (fun k => CK b k h (half 0 j)) i)
    (fun i j => joined (fun k => K b k (lane h (half 1 j))) (fun k => CK b k h (half 1 j)) i)
    (fun i y => joined (fun k => V b k (lane h y)) (fun k => CV b k h y) i) L (g x) x

/-- The grouped-query attention of every batch, token, query head and lane. -/
def groupOut (Q : Fin 8 → Fin 4096 → Fin 512 → ℝ) (K : Fin 8 → Fin 4096 → Fin 128 → ℝ) (V : Fin 8 → Fin 4096 → Fin 128 → EReal)
    (CK : Fin 8 → Fin 256 → Fin 2 → Fin 64 → ℝ) (CV : Fin 8 → Fin 256 → Fin 2 → Fin 64 → EReal)
    (b : Fin 8) (t : Fin 4096) (h : Fin 8) (x : Fin 64) : EReal :=
  groupHead (fun j => Q b t (qlane h j))
    (fun i j => joined (fun k => K b k (klane (grp h) j)) (fun k => CK b k (grp h) j) i)
    (fun i => joined (fun k => V b k (klane (grp h) x)) (fun k => CV b k (grp h) x) i)

theorem minus_infinity : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

theorem lam_init_real : ∃ r : ℝ, Ideal.ofBits .f32 0x3E4CCCCD#32 = (r : EReal) := by
  simp [Ideal.ofBits, Ideal.ieee, -EReal.coe_mul]

/-- The weight of the second softmax. -/
def lamOf (l : Fin 4 → Fin 64 → EReal) : EReal :=
  Ideal.exp (∑ j, l 0 j * l 1 j) - Ideal.exp (∑ j, l 2 j * l 3 j) + Ideal.ofBits .f32 0x3E4CCCCD#32

theorem lamOf_real (l : Fin 4 → Fin 64 → ℝ) : ∃ r : ℝ, lamOf (fun i j => (l i j : EReal)) = (r : EReal) := by
  obtain ⟨c, hc⟩ := lam_init_real
  refine ⟨Real.exp (∑ j, l 0 j * l 1 j) - Real.exp (∑ j, l 2 j * l 3 j) + c, ?_⟩
  simp only [lamOf, ← EReal.coe_mul, sum_coe, Ideal.exp_coe, hc, ← EReal.coe_sub, ← EReal.coe_add]

end Cert.Attn
end
-- ==== Proof.Block.lean ====
module
public import proofs.«01_k».proof.Proof.Gen.KernelIdeal.Value
public import Idealize.ShloMosaic.Lib.Pipeline.ValueKit
public import proofs.«01_k».proof.Proof.AttnMath
@[expose] public section
set_option maxRecDepth 16384

/-! What the attention body stores, read at one index of a 128-lane tile. The four heads of the differential attention
    are one expression of their tiles, and so are the four head pairs of the grouped-query attention. -/

noncomputable section
namespace Cert.KernelIdeal.Block
open Cert.KernelIdeal Cert.KernelIdeal.Gen Idealize.ShloMosaic Idealize.ShloMosaic.TcCoe Idealize.SL.Sem Cert.Attn

theorem scale_value : Named.named (F := Ideal) (φ := .f32) κ "attn_scale" 0x3E38AA3B#32
    = (((1 / 8) * (Real.log 2)⁻¹ : ℝ) : EReal) :=
  IdealRules.named_const.ideal_named_scalar _ _ _ _ rfl

theorem select_one (a b : EReal) : Scalar.select 1#1 a b = a := rfl

theorem select_zero (a b : EReal) : Scalar.select 0#1 a b = b := rfl

theorem lane_lo (r : Fin 128) (j : Fin 64) : k0_pay2 (ix2 r ⟨j.val, by omega⟩) = 1#1 := by
  pointwise [k0_pay2]
  revert j; decide

theorem lane_hi (r : Fin 128) (j : Fin 64) : k0_pay2 (ix2 r ⟨64 + j.val, by omega⟩) = 0#1 := by
  pointwise [k0_pay2]
  revert j; decide

theorem mask_lo (r l : Fin 128) : k0_pay3 (F := Ideal) (ix2 r l) = if k0_pay2 (ix2 r l) = 1#1 then 1 else 0 := by
  pointwise [k0_pay3]
  rcases (by decide : ∀ b : BitVec 1, b = 1#1 ∨ b = 0#1) (k0_pay2 (ix2 r l)) with h | h <;> rw [h] <;>
    simp [FloatOps.sitofp]

theorem mask_hi (r l : Fin 128) : k0_pay4 (F := Ideal) (ix2 r l) = 1 - k0_pay3 (F := Ideal) (ix2 r l) := by
  pointwise [k0_pay4]

theorem q_lo (q : Vec Ideal S1x128x128 .f32) (r l : Fin 128) : k0_pay7 (F := Ideal) q (ix2 ⟨r.val, by omega⟩ l)
    = q (ix3 0 r l) * Named.named (F := Ideal) (φ := .f32) κ "attn_scale" 0x3E38AA3B#32 * k0_pay3 (F := Ideal) (ix2 r l) := by
  pointwise [k0_pay7]

theorem q_hi (q : Vec Ideal S1x128x128 .f32) (r l : Fin 128) : k0_pay7 (F := Ideal) q (ix2 ⟨128 + r.val, by omega⟩ l)
    = q (ix3 0 r l) * Named.named (F := Ideal) (φ := .f32) κ "attn_scale" 0x3E38AA3B#32 * k0_pay4 (F := Ideal) (ix2 r l) := by
  pointwise [k0_pay7]

/-- A masked, scaled query against a key of 128 lanes: the score of the lower 64 lanes, over `log 2`. -/
theorem dot_lower (q : Vec Ideal S1x128x128 .f32) (k : Vec Ideal S1x4352x128 .bf16) (Q : Fin 128 → Fin 128 → ℝ)
    (K : Fin 4352 → Fin 128 → ℝ) (hq : ∀ r l, q (ix3 0 r l) = (Q r l : EReal)) (hk : ∀ i l, k (ix3 0 i l) = (K i l : EReal))
    (r : Fin 128) (i : Fin 4352) :
    (∑ l : Fin 128, (q (ix3 0 r l) * Named.named (F := Ideal) (φ := .f32) κ "attn_scale" 0x3E38AA3B#32
        * k0_pay3 (F := Ideal) (ix2 r l) * k (ix3 0 i l) : EReal))
      = ((score (fun j => Q r ⟨j.val, by omega⟩) (fun i j => K i ⟨j.val, by omega⟩) i * (Real.log 2)⁻¹ : ℝ) : EReal) := by
  rw [dot_lo _ (fun j : Fin 64 => ((Q r ⟨j.val, by omega⟩ * ((1 / 8) * (Real.log 2)⁻¹) * K i ⟨j.val, by omega⟩ : ℝ) : EReal))]
  · rw [sum_coe, score, Finset.sum_div, Finset.sum_mul]
    congr 1
    exact Finset.sum_congr rfl fun j _ => by ring
  · intro j
    rw [hq, hk, mask_lo, lane_lo, if_pos rfl, mul_one, scale_value, ← EReal.coe_mul, ← EReal.coe_mul]
  · intro j
    rw [mask_lo, lane_hi, if_neg (by decide), mul_zero, zero_mul]

/-- The same for the upper 64 lanes. -/
theorem dot_upper (q : Vec Ideal S1x128x128 .f32) (k : Vec Ideal S1x4352x128 .bf16) (Q : Fin 128 → Fin 128 → ℝ)
    (K : Fin 4352 → Fin 128 → ℝ) (hq : ∀ r l, q (ix3 0 r l) = (Q r l : EReal)) (hk : ∀ i l, k (ix3 0 i l) = (K i l : EReal))
    (r : Fin 128) (i : Fin 4352) :
    (∑ l : Fin 128, (q (ix3 0 r l) * Named.named (F := Ideal) (φ := .f32) κ "attn_scale" 0x3E38AA3B#32
        * k0_pay4 (F := Ideal) (ix2 r l) * k (ix3 0 i l) : EReal))
      = ((score (fun j => Q r ⟨64 + j.val, by omega⟩) (fun i j => K i ⟨64 + j.val, by omega⟩) i * (Real.log 2)⁻¹ : ℝ) : EReal) := by
  have one_sub_one : (1 : EReal) - 1 = 0 := by
    rw [show (1 : EReal) = ((1 : ℝ) : EReal) from rfl, ← EReal.coe_sub]; simp
  rw [dot_hi _ (fun j : Fin 64 => ((Q r ⟨64 + j.val, by omega⟩ * ((1 / 8) * (Real.log 2)⁻¹) * K i ⟨64 + j.val, by omega⟩ : ℝ) : EReal))]
  · rw [sum_coe, score, Finset.sum_div, Finset.sum_mul]
    congr 1
    exact Finset.sum_congr rfl fun j _ => by ring
  · intro j
    rw [mask_hi, mask_lo, lane_lo, if_pos rfl, one_sub_one, mul_zero, zero_mul]
  · intro j
    rw [hq, hk, mask_hi, mask_lo, lane_hi, if_neg (by decide), sub_zero, mul_one, scale_value, ← EReal.coe_mul, ← EReal.coe_mul]

theorem lam_at (x : Vec Ideal S4x64 .f32) : k0_pay5 (F := Ideal) x (ix2 0 0) = lamOf fun i j => x (ix2 i j) := by
  pointwise [k0_pay5]
  simp [lamOf]

theorem gain_at (x : Vec Ideal S1x128 .f32) (l : Fin 128) : k0_pay6 (F := Ideal) x (ix2 0 l) = x (ix2 0 l) := by
  pointwise [k0_pay6]

/-- The second, third and fourth head compute what the first one does. -/
theorem head_second (lam : FVec Ideal S1x1 .f32) (g : FVec Ideal S1x128 .f32) (q : Vec Ideal S1x128x128 .f32)
    (k v : Vec Ideal S1x4352x128 .bf16) :
    k0_pay12 (F := Ideal) g (k0_pay9 k0_pay3 k0_pay4 lam q k v) (k0_pay10 k0_pay3 k0_pay4 lam q k v) k0_pay11
      = k0_pay8 lam g (k0_pay7 q) k v := rfl

theorem head_third (lam : FVec Ideal S1x1 .f32) (g : FVec Ideal S1x128 .f32) (q : Vec Ideal S1x128x128 .f32)
    (k v : Vec Ideal S1x4352x128 .bf16) :
    k0_pay17 (F := Ideal) lam g (k0_pay14 k0_pay3 k0_pay4 q k) (k0_pay15 k0_pay3 k0_pay4 q k) (k0_pay16 v)
      = k0_pay8 lam g (k0_pay7 q) k v := rfl

theorem head_fourth (lam : FVec Ideal S1x1 .f32) (g : FVec Ideal S1x128 .f32) (q : Vec Ideal S1x128x128 .f32)
    (k v : Vec Ideal S1x4352x128 .bf16) :
    k0_pay20 (F := Ideal) lam g (k0_pay18 k0_pay3 k0_pay4 q) (k0_pay19 k) (constant S256x4352 .f32 0x00000000#32) v
      = k0_pay8 lam g (k0_pay7 q) k v := rfl

/-- The second, third and fourth head pair compute what the first one does. -/
theorem pair_second (q : Vec Ideal S1x128x128 .f32) (k v : Vec Ideal S1x4352x128 .bf16) :
    k0_pay23 (F := Ideal) k0_pay2 k0_pay3 k0_pay4 (k0_pay22 q) k v = k0_pay21 k0_pay2 k0_pay3 k0_pay4 q k v := rfl

theorem pair_third (q : Vec Ideal S1x128x128 .f32) (k v : Vec Ideal S1x4352x128 .bf16) :
    k0_pay25 (F := Ideal) k0_pay2 (k0_pay24 k0_pay3 k0_pay4 q) k v = k0_pay21 k0_pay2 k0_pay3 k0_pay4 q k v := rfl

theorem pair_fourth (q : Vec Ideal S1x128x128 .f32) (k v : Vec Ideal S1x4352x128 .bf16) :
    k0_pay1 (F := Ideal) k0_pay2 (k0_pay26 k0_pay3 k0_pay4 q k) (k0_pay27 k0_pay3 k0_pay4 q k) v
      = k0_pay21 k0_pay2 k0_pay3 k0_pay4 q k v := rfl

/-- One head's tile at an index. -/
theorem head_at (lam : FVec Ideal S1x1 .f32) (g : FVec Ideal S1x128 .f32) (q : Vec Ideal S1x128x128 .f32)
    (k v : Vec Ideal S1x4352x128 .bf16) (L : ℝ) (Q : Fin 128 → Fin 128 → ℝ) (K V : Fin 4352 → Fin 128 → ℝ)
    (hl : lam (ix2 0 0) = (L : EReal)) (hq : ∀ r l, q (ix3 0 r l) = (Q r l : EReal))
    (hk : ∀ i l, k (ix3 0 i l) = (K i l : EReal)) (hv : ∀ i l, v (ix3 0 i l) = (V i l : EReal)) (r x : Fin 128) :
    k0_pay8 (F := Ideal) lam g (k0_pay7 q) k v (ix3 0 r x)
      = diffHead (fun j => Q r ⟨j.val, by omega⟩) (fun j => Q r ⟨64 + j.val, by omega⟩)
          (fun i j => K i ⟨j.val, by omega⟩) (fun i j => K i ⟨64 + j.val, by omega⟩) V L (g (ix2 0 x)) x := by
  pointwise [k0_pay8]
  simp only [q_lo, q_hi, dot_lower q k Q K hq hk, dot_upper q k Q K hq hk, hl, hv, minus_infinity]
  have e2 : ∀ a : EReal, FloatOps.exp2 (F := Ideal) (φ := .f32) a = Ideal.exp2 a := fun _ => rfl
  simp only [e2]
  simp only [average _ _ _ (fun _ => rfl), average_scaled _ _ _ _ (fun _ => rfl), difference]
  rfl

/-- One head pair's tile at a lower lane: the first head of the pair. -/
theorem pair_lower (q : Vec Ideal S1x128x128 .f32) (k v : Vec Ideal S1x4352x128 .bf16) (Q : Fin 128 → Fin 128 → ℝ)
    (K : Fin 4352 → Fin 128 → ℝ) (hq : ∀ r l, q (ix3 0 r l) = (Q r l : EReal))
    (hk : ∀ i l, k (ix3 0 i l) = (K i l : EReal)) (hv : ∀ i, v (ix3 0 i 64) = 1) (r : Fin 128) (x : Fin 64) :
    k0_pay21 (F := Ideal) k0_pay2 k0_pay3 k0_pay4 q k v (ix3 0 r ⟨x.val, by omega⟩)
      = groupHead (fun j => Q r ⟨j.val, by omega⟩) (fun i j => K i ⟨j.val, by omega⟩)
          (fun i => v (ix3 0 i ⟨x.val, by omega⟩)) := by
  pointwise [k0_pay21]
  rw [lane_lo, select_one]
  simp only [dot_lower q k Q K hq hk, minus_infinity]
  have e2 : ∀ a : EReal, FloatOps.exp2 (F := Ideal) (φ := .f32) a = Ideal.exp2 a := fun _ => rfl
  simp only [e2]
  have A := average_ones (n := 4351)
    (fun i => ((score (fun j => Q r ⟨j.val, by omega⟩) (fun i j => K i ⟨j.val, by omega⟩) i * (Real.log 2)⁻¹ : ℝ) : EReal))
    (fun i => v (ix3 0 i ⟨x.val, by omega⟩)) (fun i => v (ix3 0 i 64))
    (score (fun j => Q r ⟨j.val, by omega⟩) (fun i j => K i ⟨j.val, by omega⟩)) (fun _ => rfl) hv
  exact A

/-- The same at an upper lane: the second head of the pair; its values stand in the lower lanes. -/
theorem pair_upper (q : Vec Ideal S1x128x128 .f32) (k v : Vec Ideal S1x4352x128 .bf16) (Q : Fin 128 → Fin 128 → ℝ)
    (K : Fin 4352 → Fin 128 → ℝ) (hq : ∀ r l, q (ix3 0 r l) = (Q r l : EReal))
    (hk : ∀ i l, k (ix3 0 i l) = (K i l : EReal)) (hv : ∀ i, v (ix3 0 i 64) = 1) (r : Fin 128) (x : Fin 64) :
    k0_pay21 (F := Ideal) k0_pay2 k0_pay3 k0_pay4 q k v (ix3 0 r ⟨64 + x.val, by omega⟩)
      = groupHead (fun j => Q r ⟨64 + j.val, by omega⟩) (fun i j => K i ⟨64 + j.val, by omega⟩)
          (fun i => v (ix3 0 i ⟨x.val, by omega⟩)) := by
  pointwise [k0_pay21]
  rw [lane_hi, select_zero]
  simp only [dot_upper q k Q K hq hk, minus_infinity]
  have e2 : ∀ a : EReal, FloatOps.exp2 (F := Ideal) (φ := .f32) a = Ideal.exp2 a := fun _ => rfl
  have hx : ∀ h, (⟨(64 + x.val + 128 - 64) % 128, h⟩ : Fin 128) = ⟨x.val, by omega⟩ := fun h => Fin.ext (by simp; omega)
  simp only [e2, hx]
  have A := average_ones (n := 4351)
    (fun i => ((score (fun j => Q r ⟨64 + j.val, by omega⟩) (fun i j => K i ⟨64 + j.val, by omega⟩) i * (Real.log 2)⁻¹ : ℝ) : EReal))
    (fun i => v (ix3 0 i ⟨x.val, by omega⟩)) (fun i => v (ix3 0 i 64))
    (score (fun j => Q r ⟨64 + j.val, by omega⟩) (fun i j => K i ⟨64 + j.val, by omega⟩)) (fun _ => rfl) hv
  exact A

end Cert.KernelIdeal.Block
end
-- ==== Proof.Arrays.lean ====
module
public import proofs.«01_k».proof.Proof.Block
@[expose] public section
set_option maxRecDepth 16384
noncomputable section
namespace Cert.KernelIdeal.Arrays
open Cert.KernelIdeal Cert.KernelIdeal.Gen Idealize.ShloMosaic Idealize.ShloMosaic.TcCoe Idealize.SL.Sem Cert.Attn

variable (m : (ℓ : Loc nD τ sig) → Buf (Elt Ideal) ℓ)

theorem index_maps : ∀ t : Fin cfg0.N,
    win0_0.index t = ![t.val / 32, t.val % 32, 0] ∧ win0_1.index t = ![t.val / 32, 0, 0]
      ∧ win0_2.index t = ![t.val / 32, 0, 0] ∧ win0_3.index t = ![t.val / 32, t.val % 32, 0]
      ∧ win0_4.index t = ![t.val / 32, 0, 0] ∧ win0_5.index t = ![t.val / 32, 0, 0]
      ∧ win0_6.index t = ![0, 0] ∧ win0_7.index t = ![0, 0]
      ∧ win0_8.index t = ![t.val / 32, t.val % 32, 0] ∧ win0_9.index t = ![t.val / 32, t.val % 32, 0] :=
  (by decide +kernel : ∀ t : Fin grid0.N, _)

theorem at0 (t : Fin cfg0.N) : win0_0.index t = ![t.val / 32, t.val % 32, 0] := (index_maps t).1
theorem at1 (t : Fin cfg0.N) : win0_1.index t = ![t.val / 32, 0, 0] := (index_maps t).2.1
theorem at2 (t : Fin cfg0.N) : win0_2.index t = ![t.val / 32, 0, 0] := (index_maps t).2.2.1
theorem at3 (t : Fin cfg0.N) : win0_3.index t = ![t.val / 32, t.val % 32, 0] := (index_maps t).2.2.2.1
theorem at4 (t : Fin cfg0.N) : win0_4.index t = ![t.val / 32, 0, 0] := (index_maps t).2.2.2.2.1
theorem at5 (t : Fin cfg0.N) : win0_5.index t = ![t.val / 32, 0, 0] := (index_maps t).2.2.2.2.2.1
theorem at6 (t : Fin cfg0.N) : win0_6.index t = ![0, 0] := (index_maps t).2.2.2.2.2.2.1
theorem at7 (t : Fin cfg0.N) : win0_7.index t = ![0, 0] := (index_maps t).2.2.2.2.2.2.2.1
theorem at8 (t : Fin cfg0.N) : win0_8.index t = ![t.val / 32, t.val % 32, 0] := (index_maps t).2.2.2.2.2.2.2.2.1
theorem at9 (t : Fin cfg0.N) : win0_9.index t = ![t.val / 32, t.val % 32, 0] := (index_maps t).2.2.2.2.2.2.2.2.2

/-- The batch of a grid point. -/
def batch (t : Fin cfg0.N) : Fin 8 := ⟨t.val / 32, by have := t.isLt; have h : cfg0.N = 256 := rfl; omega⟩

/-- Row `r` of a grid point's block of queries. -/
def row (t : Fin cfg0.N) (r : Fin 128) : Fin 4096 := ⟨t.val % 32 * 128 + r.val, by omega⟩

theorem queries_block (c : Dev nD) (t : Fin cfg0.N) (r : Fin 128) (l : Fin 512) :
    iblk m c 0 t (ix3 0 r l) = m ((c : Thread nD τ).loc main_arg0) (ix3 (batch t) (row t r) l) := by
  blk_ext [iblk, V, at0 t, batch, row]

theorem group_queries_block (c : Dev nD) (t : Fin cfg0.N) (r : Fin 128) (l : Fin 512) :
    iblk m c 3 t (ix3 0 r l) = m ((c : Thread nD τ).loc main_arg3) (ix3 (batch t) (row t r) l) := by
  blk_ext [iblk, V, at3 t, batch, row]

theorem keys_block (c : Dev nD) (t : Fin cfg0.N) (i : Fin 4352) (l : Fin 512) :
    iblk m c 1 t (ix3 0 i l) = V m c main_v3 (ix3 (batch t) i l) := by
  blk_ext [iblk, at1 t, batch]

theorem values_block (c : Dev nD) (t : Fin cfg0.N) (i : Fin 4352) (l : Fin 512) :
    iblk m c 2 t (ix3 0 i l) = V m c main_v7 (ix3 (batch t) i l) := by
  blk_ext [iblk, at2 t, batch]

theorem group_keys_block (c : Dev nD) (t : Fin cfg0.N) (i : Fin 4352) (l : Fin 256) :
    iblk m c 4 t (ix3 0 i l) = V m c main_v18 (ix3 (batch t) i l) := by
  dsimp only [iblk]
  generalize V m c (Pipeline.arrRef spec0 4) = A
  blk_ext [at4 t, batch]

theorem group_values_block (c : Dev nD) (t : Fin cfg0.N) (i : Fin 4352) (l : Fin 256) :
    iblk m c 5 t (ix3 0 i l) = V m c main_v22 (ix3 (batch t) i l) := by
  dsimp only [iblk]
  generalize V m c (Pipeline.arrRef spec0 5) = A
  blk_ext [at5 t, batch]

theorem lam_block (c : Dev nD) (t : Fin cfg0.N) (i : Fin 4) (j : Fin 64) :
    iblk m c 6 t (ix2 i j) = m ((c : Thread nD τ).loc main_arg10) (ix2 i j) := by
  blk_ext [iblk, V, at6 t]

theorem gain_block (c : Dev nD) (t : Fin cfg0.N) (x : Fin 128) :
    iblk m c 7 t (ix2 0 x) = V m c main_v23 (ix2 0 x) := by
  blk_ext [iblk, at7 t]

end Cert.KernelIdeal.Arrays
end
-- ==== Proof.Entries.lean ====
module
public import proofs.«01_k».proof.Proof.Block
@[expose] public section
set_option maxRecDepth 16384
noncomputable section
namespace Cert.KernelIdeal.Arrays
open Cert.KernelIdeal Cert.KernelIdeal.Gen Idealize.ShloMosaic Idealize.ShloMosaic.TcCoe Idealize.SL.Sem Cert.Attn

variable (m : (ℓ : Loc nD τ sig) → Buf (Elt Ideal) ℓ)

/-- Keys of the differential attention: own rows, then context rows. -/
theorem keys_entry (c : Dev nD) (b : Fin 8) (i : Fin 4352) (h : Fin 4) (x : Fin 128) :
    V m c main_v3 (ix3 b i (lane h x)) = joined (fun k => m ((c : Thread nD τ).loc main_arg1) (ix3 b k (lane h x)))
      (fun k => m ((c : Thread nD τ).loc main_arg6) (ix4 b k h x)) i := by
  entry_read
  pointwise [lane]
  simp only [joined, lane]
  refine dite_congr rfl (fun _ => rfl) fun _ => ?_
  blk_ext

/-- Values of the differential attention: own rows, then context rows. -/
theorem values_entry (c : Dev nD) (b : Fin 8) (i : Fin 4352) (h : Fin 4) (x : Fin 128) :
    V m c main_v7 (ix3 b i (lane h x)) = joined (fun k => m ((c : Thread nD τ).loc main_arg2) (ix3 b k (lane h x)))
      (fun k => m ((c : Thread nD τ).loc main_arg7) (ix4 b k h x)) i := by
  entry_read
  pointwise [lane]
  simp only [joined, lane]
  refine dite_congr rfl (fun _ => rfl) fun _ => ?_
  blk_ext

/-- Lane `x` of the half `p` of the key group `g`, in the array that holds every group of keys twice. -/
def twice (g p : Fin 2) (x : Fin 64) : Fin 256 := ⟨g.val * 128 + p.val * 64 + x.val, by omega⟩

/-- Keys of the grouped-query attention, held twice. -/
theorem group_keys_entry (c : Dev nD) (b : Fin 8) (i : Fin 4352) (g p : Fin 2) (x : Fin 64) :
    V m c main_v18 (ix3 b i (twice g p x)) = joined (fun k => m ((c : Thread nD τ).loc main_arg4) (ix3 b k (klane g x)))
      (fun k => m ((c : Thread nD τ).loc main_arg8) (ix4 b k g x)) i := by
  entry_read
  pointwise [twice]
  simp only [joined, klane]
  refine dite_congr rfl (fun _ => rfl) fun _ => ?_
  blk_ext

/-- Values of the grouped-query attention, in the first half of their lanes. -/
theorem group_values_entry (c : Dev nD) (b : Fin 8) (i : Fin 4352) (g : Fin 2) (x : Fin 64) :
    V m c main_v22 (ix3 b i (twice g 0 x)) = joined (fun k => m ((c : Thread nD τ).loc main_arg5) (ix3 b k (klane g x)))
      (fun k => m ((c : Thread nD τ).loc main_arg9) (ix4 b k g x)) i := by
  entry_read
  pointwise [twice]
  rw [dif_pos (by omega)]
  simp only [joined, klane]
  refine dite_congr rfl (fun _ => rfl) fun _ => ?_
  blk_ext

/-- Ones behind the values. -/
theorem group_ones_entry (c : Dev nD) (b : Fin 8) (i : Fin 4352) (g : Fin 2) (x : Fin 64) :
    V m c main_v22 (ix3 b i (twice g 1 x)) = (1 : EReal) := by
  entry_read
  pointwise [twice]
  rw [dif_neg (by omega)]

theorem gain_entry (c : Dev nD) (x : Fin 128) :
    V m c main_v23 (ix2 0 x) = m ((c : Thread nD τ).loc main_arg11) (ix1 x) := by
  entry_read
  pointwise []

end Cert.KernelIdeal.Arrays
end
-- ==== Proof.Diff.lean ====
module
public import proofs.«01_k».proof.Proof.Arrays
public import proofs.«01_k».proof.Proof.Entries
@[expose] public section
set_option maxRecDepth 16384

/-! The kernel's first result, as an array: the differential attention. -/

noncomputable section
namespace Cert.KernelIdeal.Arrays
open Cert.KernelIdeal Cert.KernelIdeal.Gen Cert.KernelIdeal.Block Idealize.ShloMosaic Idealize.ShloMosaic.TcCoe Idealize.SL.Sem Cert.Attn

variable (m : (ℓ : Loc nD τ sig) → Buf (Elt Ideal) ℓ)

/-- What the differential attention's arguments hold: real numbers. -/
structure DiffArgs (c : Dev nD) (Q K W : Fin 8 → Fin 4096 → Fin 512 → ℝ) (CK CW : Fin 8 → Fin 256 → Fin 4 → Fin 128 → ℝ) (L : ℝ) :
    Prop where
  hQ : ∀ b t l, m ((c : Thread nD τ).loc main_arg0) (ix3 b t l) = (Q b t l : EReal)
  hK : ∀ b t l, m ((c : Thread nD τ).loc main_arg1) (ix3 b t l) = (K b t l : EReal)
  hW : ∀ b t l, m ((c : Thread nD τ).loc main_arg2) (ix3 b t l) = (W b t l : EReal)
  hCK : ∀ b t h l, m ((c : Thread nD τ).loc main_arg6) (ix4 b t h l) = (CK b t h l : EReal)
  hCW : ∀ b t h l, m ((c : Thread nD τ).loc main_arg7) (ix4 b t h l) = (CW b t h l : EReal)
  hL : (lamOf fun i j => m ((c : Thread nD τ).loc main_arg10) (ix2 i j)) = (L : EReal)

section
variable {m} {c : Dev nD} {Q K W : Fin 8 → Fin 4096 → Fin 512 → ℝ} {CK CW : Fin 8 → Fin 256 → Fin 4 → Fin 128 → ℝ} {L : ℝ}

/-- The gain of the norm. -/
abbrev gain (m : (ℓ : Loc nD τ sig) → Buf (Elt Ideal) ℓ) (c : Dev nD) (x : Fin 128) : EReal :=
  m ((c : Thread nD τ).loc main_arg11) (ix1 x)

theorem head_block (H : DiffArgs m c Q K W CK CW L) (t : Fin cfg0.N) (h : Fin 4) (lam : FVec Ideal S1x1 .f32)
    (g : FVec Ideal S1x128 .f32) (q : Vec Ideal S1x128x128 .f32) (k v : Vec Ideal S1x4352x128 .bf16)
    (hq : ∀ r l, q (ix3 0 r l) = iblk m c 0 t (ix3 0 r (lane h l)))
    (hk : ∀ i l, k (ix3 0 i l) = iblk m c 1 t (ix3 0 i (lane h l)))
    (hv : ∀ i l, v (ix3 0 i l) = iblk m c 2 t (ix3 0 i (lane h l)))
    (hl : lam (ix2 0 0) = lamOf fun i j => iblk m c 6 t (ix2 i j))
    (hg : ∀ l, g (ix2 0 l) = iblk m c 7 t (ix2 0 l)) (r x : Fin 128) :
    k0_pay8 (F := Ideal) lam g (k0_pay7 q) k v (ix3 0 r x)
      = diffOut Q K W CK CW L (gain m c) (batch t) (row t r) h x := by
  rw [head_at lam g q k v L (fun r l => Q (batch t) (row t r) (lane h l))
    (fun i l => joined (fun u => K (batch t) u (lane h l)) (fun u => CK (batch t) u h l) i)
    (fun i l => joined (fun u => W (batch t) u (lane h l)) (fun u => CW (batch t) u h l) i)
    (by rw [hl, ← H.hL]; simp only [lam_block])
    (fun r l => by rw [hq, queries_block, H.hQ])
    (fun i l => by rw [hk, keys_block, keys_entry, ← joined_coe]; simp only [H.hK, H.hCK])
    (fun i l => by rw [hv, values_block, values_entry, ← joined_coe]; simp only [H.hW, H.hCW])]
  rw [hg, gain_block, gain_entry, diffOut]
  have h0 : ∀ j : Fin 64, half 0 j = ⟨j.val, by omega⟩ := fun j => Fin.ext (by simp [half])
  have h1 : ∀ j : Fin 64, half 1 j = ⟨64 + j.val, by omega⟩ := fun j => Fin.ext (by simp [half])
  simp only [h0, h1]

/-- An index of a tile of 128 rows and 128 lanes is a row and a lane. -/
theorem tile_index (x : S1x128x128.Idx) : ∃ r l : Fin 128, x = ix3 0 r l := by
  refine ⟨x 1, x 2, ?_⟩
  funext a
  match a with
  | ⟨0, _⟩ => exact Subsingleton.elim (α := Fin 1) _ _
  | ⟨1, _⟩ => rfl
  | ⟨2, _⟩ => rfl

/-- The head that lane `l` of 512 belongs to, and the lane's place in it. -/
def headOf (l : Fin 512) : Fin 4 := ⟨l.val / 128, by omega⟩
def laneOf (l : Fin 512) : Fin 128 := ⟨l.val % 128, by omega⟩

theorem diff_point (H : DiffArgs m c Q K W CK CW L) (t : Fin cfg0.N) (y : S1x128x512.Idx) :
    out0_8 (iblk m c 0 t) (iblk m c 1 t) (iblk m c 2 t) (iblk m c 3 t) (iblk m c 4 t) (iblk m c 5 t) (iblk m c 6 t)
      (iblk m c 7 t) y
      = diffOut Q K W CK CW L (gain m c) (batch t) (row t (y 1)) (headOf (y 2)) (laneOf (y 2)) := by
  unfold_out out0_8
  canon_tiles x h
  all_goals obtain ⟨r, l, rfl⟩ := tile_index x
  all_goals
    have e1 : (y 1 : Fin 128) = r := Fin.ext h1
    rw [e1]
  case piece0 =>
    change _ = 384 + l.val at h2
    have e2 : headOf (y 2) = 3 := Fin.ext (by simp only [headOf]; omega)
    have e3 : laneOf (y 2) = l := Fin.ext (by simp only [laneOf]; omega)
    rw [e2, e3, head_fourth]
    refine head_block H t 3 _ _ _ _ _ ?_ ?_ ?_ ?_ ?_ r l
    · intro r l; pointwise [lane]
    · intro i l; pointwise [lane]
    · intro i l; pointwise [lane]
    · refine (Block.lam_at _).trans (congrArg lamOf ?_)
      funext i j
      pointwise []
    · intro l; refine (gain_at _ l).trans ?_; pointwise []
  case piece1 =>
    change _ = 256 + l.val at h2
    have e2 : headOf (y 2) = 2 := Fin.ext (by simp only [headOf]; omega)
    have e3 : laneOf (y 2) = l := Fin.ext (by simp only [laneOf]; omega)
    rw [e2, e3, head_third]
    refine head_block H t 2 _ _ _ _ _ ?_ ?_ ?_ ?_ ?_ r l
    · intro r l; pointwise [lane]
    · intro i l; pointwise [lane]
    · intro i l; pointwise [lane]
    · refine (Block.lam_at _).trans (congrArg lamOf ?_)
      funext i j
      pointwise []
    · intro l; refine (gain_at _ l).trans ?_; pointwise []
  case piece2 =>
    change _ = 128 + l.val at h2
    have e2 : headOf (y 2) = 1 := Fin.ext (by simp only [headOf]; omega)
    have e3 : laneOf (y 2) = l := Fin.ext (by simp only [laneOf]; omega)
    rw [e2, e3, head_second]
    refine head_block H t 1 _ _ _ _ _ ?_ ?_ ?_ ?_ ?_ r l
    · intro r l; pointwise [lane]
    · intro i l; pointwise [lane]
    · intro i l; pointwise [lane]
    · refine (Block.lam_at _).trans (congrArg lamOf ?_)
      funext i j
      pointwise []
    · intro l; refine (gain_at _ l).trans ?_; pointwise []
  case piece3 =>
    change _ = l.val at h2
    have e2 : headOf (y 2) = 0 := Fin.ext (by simp only [headOf]; omega)
    have e3 : laneOf (y 2) = l := Fin.ext (by simp only [laneOf]; omega)
    rw [e2, e3]
    refine head_block H t 0 _ _ _ _ _ ?_ ?_ ?_ ?_ ?_ r l
    · intro r l; pointwise [lane]
    · intro i l; pointwise [lane]
    · intro i l; pointwise [lane]
    · refine (Block.lam_at _).trans (congrArg lamOf ?_)
      funext i j
      pointwise []
    · intro l; refine (gain_at _ l).trans ?_; pointwise []

/-- The first result after the run. -/
theorem diff_final (H : DiffArgs m c Q K W CK CW L) : (dats m 0 c).arrAt 8 cfg0.N
    = fun i : S8x4096x512.Idx => diffOut Q K W CK CW L (gain m c) (i 0) (i 1) (headOf (i 2)) (laneOf (i 2)) := by
  refine (dats m 0 c).arrAt_eq_of_covers 8 _ (by decide +kernel) fun t _ y => ?_
  blk_simp
  rw [after0_8]
  refine (diff_point H t y).trans ?_
  have e : ((cfg0.win 8).blk t).view.emb y = ix3 (batch t) (row t (y 1)) (y 2) := by
    blk_ext [at8 t, batch, row]
  simp only [e]
  rfl

end
end Cert.KernelIdeal.Arrays
end
-- ==== Proof.Group.lean ====
module
public import proofs.«01_k».proof.Proof.Arrays
public import proofs.«01_k».proof.Proof.Entries
@[expose] public section
set_option maxRecDepth 16384

/-! The kernel's second result, as an array: the grouped-query attention. -/

noncomputable section
namespace Cert.KernelIdeal.Arrays
open Cert.KernelIdeal Cert.KernelIdeal.Gen Cert.KernelIdeal.Block Idealize.ShloMosaic Idealize.ShloMosaic.TcCoe Idealize.SL.Sem Cert.Attn

variable (m : (ℓ : Loc nD τ sig) → Buf (Elt Ideal) ℓ)

/-- What the grouped-query attention's queries and keys hold: real numbers. -/
structure GroupArgs (c : Dev nD) (Q : Fin 8 → Fin 4096 → Fin 512 → ℝ) (K : Fin 8 → Fin 4096 → Fin 128 → ℝ)
    (CK : Fin 8 → Fin 256 → Fin 2 → Fin 64 → ℝ) : Prop where
  hQ : ∀ b t l, m ((c : Thread nD τ).loc main_arg3) (ix3 b t l) = (Q b t l : EReal)
  hK : ∀ b t l, m ((c : Thread nD τ).loc main_arg4) (ix3 b t l) = (K b t l : EReal)
  hCK : ∀ b t h l, m ((c : Thread nD τ).loc main_arg8) (ix4 b t h l) = (CK b t h l : EReal)

/-- The values, own and context. -/
abbrev ownValues (c : Dev nD) (b : Fin 8) (t : Fin 4096) (l : Fin 128) : EReal := m ((c : Thread nD τ).loc main_arg5) (ix3 b t l)
abbrev contextValues (c : Dev nD) (b : Fin 8) (t : Fin 256) (g : Fin 2) (l : Fin 64) : EReal :=
  m ((c : Thread nD τ).loc main_arg9) (ix4 b t g l)

section
variable {m} {c : Dev nD} {Q : Fin 8 → Fin 4096 → Fin 512 → ℝ} {K : Fin 8 → Fin 4096 → Fin 128 → ℝ}
  {CK : Fin 8 → Fin 256 → Fin 2 → Fin 64 → ℝ}

/-- The key group of a head pair, and its lanes in the arrays of keys and values. -/
def grpOf (p : Fin 4) : Fin 2 := ⟨p.val / 2, by omega⟩
def wide (p : Fin 4) (l : Fin 128) : Fin 256 := ⟨p.val / 2 * 128 + l.val, by omega⟩
def half64 (l : Fin 128) : Fin 2 := ⟨l.val / 64, by omega⟩
def low64 (l : Fin 128) : Fin 64 := ⟨l.val % 64, by omega⟩
def headIn (p : Fin 4) (a : Fin 2) : Fin 8 := ⟨p.val * 2 + a.val, by omega⟩

theorem wide_twice (p : Fin 4) (l : Fin 128) : wide p l = twice (grpOf p) (half64 l) (low64 l) :=
  Fin.ext (by simp only [wide, twice, grpOf, half64, low64]; omega)

theorem pair_block (H : GroupArgs m c Q K CK) (t : Fin cfg0.N) (p : Fin 4)
    (q : Vec Ideal S1x128x128 .f32) (k v : Vec Ideal S1x4352x128 .bf16)
    (hq : ∀ r l, q (ix3 0 r l) = iblk m c 3 t (ix3 0 r (lane p l)))
    (hk : ∀ i l, k (ix3 0 i l) = iblk m c 4 t (ix3 0 i (wide p l)))
    (hv : ∀ i l, v (ix3 0 i l) = iblk m c 5 t (ix3 0 i (wide p l))) (r l : Fin 128) :
    k0_pay21 (F := Ideal) k0_pay2 k0_pay3 k0_pay4 q k v (ix3 0 r l)
      = groupOut Q K (ownValues m c) CK (contextValues m c) (batch t) (row t r) (headIn p (half64 l)) (low64 l) := by
  have hq' : ∀ r l, q (ix3 0 r l) = (Q (batch t) (row t r) (lane p l) : EReal) := fun r l => by
    rw [hq, group_queries_block, H.hQ]
  have hk' : ∀ i l, k (ix3 0 i l) = ((joined (fun u => K (batch t) u (klane (grpOf p) (low64 l)))
      (fun u => CK (batch t) u (grpOf p) (low64 l)) i : ℝ) : EReal) := fun i l => by
    rw [hk, group_keys_block, wide_twice, group_keys_entry, ← joined_coe]
    simp only [H.hK, H.hCK]
  have hv1 : ∀ i, v (ix3 0 i 64) = 1 := fun i => by
    rw [hv, group_values_block, wide_twice, show half64 64 = 1 from rfl, group_ones_entry]
  have hv0 : ∀ i (x : Fin 64), v (ix3 0 i ⟨x.val, by omega⟩) = joined (fun u => ownValues m c (batch t) u (klane (grpOf p) x))
      (fun u => contextValues m c (batch t) u (grpOf p) x) i := fun i x => by
    rw [hv, group_values_block, wide_twice, show half64 ⟨x.val, by omega⟩ = 0 from Fin.ext (by simp only [half64]; omega),
      show low64 ⟨x.val, by omega⟩ = x from Fin.ext (by simp only [low64]; omega), group_values_entry]
  have hg : ∀ a : Fin 2, grp (headIn p a) = grpOf p := fun a => Fin.ext (by simp only [grp, headIn, grpOf]; omega)
  by_cases hl : l.val < 64
  · obtain ⟨x, hx⟩ : ∃ x : Fin 64, l.val = x.val := ⟨⟨l.val, hl⟩, rfl⟩
    obtain rfl : l = ⟨x.val, lt_trans x.isLt (by decide)⟩ := Fin.ext hx
    have ea : half64 ⟨x.val, by omega⟩ = 0 := Fin.ext (by simp only [half64]; omega)
    have eb : low64 ⟨x.val, by omega⟩ = x := Fin.ext (by simp only [low64]; omega)
    rw [pair_lower q k v (fun r l => Q (batch t) (row t r) (lane p l)) _ hq' hk' hv1 r x, ea, eb, groupOut, hg]
    have ec : ∀ j : Fin 64, low64 ⟨j.val, by omega⟩ = j := fun j => Fin.ext (by simp only [low64]; omega)
    have ed : ∀ j : Fin 64, lane p ⟨j.val, by omega⟩ = qlane (headIn p 0) j := fun j =>
      Fin.ext (by simp only [lane, qlane, headIn]; omega)
    simp only [ec, ed, hv0]
  · obtain ⟨x, hx⟩ : ∃ x : Fin 64, l.val = 64 + x.val := ⟨⟨l.val - 64, by omega⟩, by simp only []; omega⟩
    obtain rfl : l = ⟨64 + x.val, show 64 + x.val < 128 from Nat.add_lt_add_left x.isLt 64⟩ := Fin.ext hx
    have ea : half64 ⟨64 + x.val, by omega⟩ = 1 := Fin.ext (by simp only [half64]; omega)
    have eb : low64 ⟨64 + x.val, by omega⟩ = x := Fin.ext (by simp only [low64]; omega)
    rw [pair_upper q k v (fun r l => Q (batch t) (row t r) (lane p l)) _ hq' hk' hv1 r x, ea, eb, groupOut, hg]
    have ec : ∀ j : Fin 64, low64 ⟨64 + j.val, by omega⟩ = j := fun j => Fin.ext (by simp only [low64]; omega)
    have ed : ∀ j : Fin 64, lane p ⟨64 + j.val, by omega⟩ = qlane (headIn p 1) j := fun j =>
      Fin.ext (by simp only [lane, qlane, headIn]; omega)
    simp only [ec, ed, hv0]

theorem tile_index' (x : S1x128x128.Idx) : ∃ r l : Fin 128, x = ix3 0 r l := by
  refine ⟨x 1, x 2, ?_⟩
  funext a
  match a with
  | ⟨0, _⟩ => exact Subsingleton.elim (α := Fin 1) _ _
  | ⟨1, _⟩ => rfl
  | ⟨2, _⟩ => rfl

/-- The query head that lane `l` of 512 belongs to, and the lane's place in it. -/
def queryHead (l : Fin 512) : Fin 8 := ⟨l.val / 64, by omega⟩
def queryLane (l : Fin 512) : Fin 64 := ⟨l.val % 64, by omega⟩

theorem group_point (H : GroupArgs m c Q K CK) (t : Fin cfg0.N) (y : S1x128x512.Idx) :
    out0_9 (iblk m c 0 t) (iblk m c 1 t) (iblk m c 2 t) (iblk m c 3 t) (iblk m c 4 t) (iblk m c 5 t) (iblk m c 6 t)
      (iblk m c 7 t) y
      = groupOut Q K (ownValues m c) CK (contextValues m c) (batch t) (row t (y 1)) (queryHead (y 2)) (queryLane (y 2)) := by
  unfold_out out0_9
  canon_tiles x h
  all_goals obtain ⟨r, l, rfl⟩ := tile_index' x
  all_goals
    have e1 : (y 1 : Fin 128) = r := Fin.ext h1
    rw [e1]
  case piece0 =>
    change _ = 384 + l.val at h2
    have e2 : queryHead (y 2) = headIn 3 (half64 l) := Fin.ext (by simp only [queryHead, headIn, half64]; omega)
    have e3 : queryLane (y 2) = low64 l := Fin.ext (by simp only [queryLane, low64]; omega)
    rw [e2, e3, pair_fourth]
    refine pair_block H t 3 _ _ _ ?_ ?_ ?_ r l
    · intro r l; pointwise [lane]
    · intro i l; pointwise [wide]
    · intro i l; pointwise [wide]
  case piece1 =>
    change _ = 256 + l.val at h2
    have e2 : queryHead (y 2) = headIn 2 (half64 l) := Fin.ext (by simp only [queryHead, headIn, half64]; omega)
    have e3 : queryLane (y 2) = low64 l := Fin.ext (by simp only [queryLane, low64]; omega)
    rw [e2, e3, pair_third]
    refine pair_block H t 2 _ _ _ ?_ ?_ ?_ r l
    · intro r l; pointwise [lane]
    · intro i l; pointwise [wide]
    · intro i l; pointwise [wide]
  case piece2 =>
    change _ = 128 + l.val at h2
    have e2 : queryHead (y 2) = headIn 1 (half64 l) := Fin.ext (by simp only [queryHead, headIn, half64]; omega)
    have e3 : queryLane (y 2) = low64 l := Fin.ext (by simp only [queryLane, low64]; omega)
    rw [e2, e3, pair_second]
    refine pair_block H t 1 _ _ _ ?_ ?_ ?_ r l
    · intro r l; pointwise [lane]
    · intro i l; pointwise [wide]
    · intro i l; pointwise [wide]
  case piece3 =>
    change _ = l.val at h2
    have e2 : queryHead (y 2) = headIn 0 (half64 l) := Fin.ext (by simp only [queryHead, headIn, half64]; omega)
    have e3 : queryLane (y 2) = low64 l := Fin.ext (by simp only [queryLane, low64]; omega)
    rw [e2, e3]
    refine pair_block H t 0 _ _ _ ?_ ?_ ?_ r l
    · intro r l; pointwise [lane]
    · intro i l; pointwise [wide]
    · intro i l; pointwise [wide]

/-- The second result after the run. -/
theorem group_final (H : GroupArgs m c Q K CK) : (dats m 0 c).arrAt 9 cfg0.N
    = fun i : S8x4096x512.Idx => groupOut Q K (ownValues m c) CK (contextValues m c) (i 0) (i 1) (queryHead (i 2)) (queryLane (i 2)) := by
  refine (dats m 0 c).arrAt_eq_of_covers 9 _ (by decide +kernel) fun t _ y => ?_
  blk_simp
  rw [after0_9]
  refine (group_point H t y).trans ?_
  have e : ((cfg0.win 9).blk t).view.emb y = ix3 (batch t) (row t (y 1)) (y 2) := by
    blk_ext [at9 t, batch, row]
  simp only [e]
  rfl

end
end Cert.KernelIdeal.Arrays
end
-- ==== Proof.Ref.lean ====
module
public import proofs.«01_k».proof.Proof.Gen.ReferenceIdeal.Read
public import Idealize.ShloMosaic.Lib.Pipeline.ValueKit
public import proofs.«01_k».proof.Proof.AttnMath
@[expose] public section
set_option maxRecDepth 16384

/-! The reference read at one index: scores, softmax weights, averages, norm. -/

noncomputable section
namespace Cert.ReferenceIdeal.Ref
open Cert.ReferenceIdeal Cert.ReferenceIdeal.Read Idealize.ShloMosaic Idealize.ShloMosaic.TcCoe Idealize.SL.Sem Cert.Attn

/-- Arrays of the reference at the ideal values. -/
abbrev Arr (s : Shape) : Type := (⟨s, .f32⟩ : BufTy).Contents (Elt Ideal)

theorem own_or_context {α : Type} (own : Fin 4096 → α) (ctx : Fin 256 → α) (i : Fin 4352) :
    (if h : i.val < 4096 then own ⟨i.val, h⟩ else ctx ⟨i.val - 4096, by omega⟩) = joined own ctx i := rfl

section Diff
variable (x0 x1 x2 : Arr S8x4096x512) (x6 x7 : Arr S8x256x4x128) (x10 : Arr S4x64) (x11 : Arr S128)

theorem keys_at (b : Fin 8) (k : Fin 4352) (h : Fin 4) (m : Fin 2) (j : Fin 64) :
    val_main_v4 x1 x6 (ix5 b k h m j)
      = joined (fun i => x1 (ix3 b i (lane h (half m j)))) (fun i => x6 (ix4 b i h (half m j))) k := by
  pointwise [val_main_v4, val_main_v3, val_main_v2]
  simp only [joined, lane, half, Nat.add_assoc]

theorem values_at (b : Fin 8) (k : Fin 4352) (h : Fin 4) (y : Fin 128) :
    val_main_v6 x2 x7 (ix4 b k h y) = joined (fun i => x2 (ix3 b i (lane h y))) (fun i => x7 (ix4 b i h y)) k := by
  pointwise [val_main_v6, val_main_v5]
  simp only [joined, lane]

theorem scores_at (b : Fin 8) (h : Fin 4) (m : Fin 2) (t : Fin 4096) (k : Fin 4352) :
    val_main_v29 x0 x1 x6 (ix5 b h m t k)
      = (∑ j, x0 (ix3 b t (lane h (half m j))) * val_main_v4 x1 x6 (ix5 b k h m j)) * Ideal.ofBits .f32 0x3E000000#32 := by
  pointwise [val_main_v29, val_main_v28, val_main_v27, val_main_v0, val_main_cst_2]
  simp only [lane, half, Nat.add_assoc]

theorem fold_at (b : Fin 8) (h : Fin 4) (m : Fin 2) (t : Fin 4096) :
    val_main_v30 x0 x1 x6 (ix4 b h m t) = Finset.univ.fold max (Ideal.ofBits .f32 0xFF800000#32)
          (fun i => val_main_v29 x0 x1 x6 (ix5 b h m t i)) := by
  unfold val_main_v30 val_main_cst_3
  generalize val_main_v29 x0 x1 x6 = y
  pointwise []

theorem max_at (b : Fin 8) (h : Fin 4) (m : Fin 2) (t : Fin 4096) (k : Fin 4352) :
    val_main_v34 x0 x1 x6 (ix5 b h m t k) = max (Ideal.ofBits .f32 0xFF800000#32) (val_main_v30 x0 x1 x6 (ix4 b h m t)) := by
  have e : idx_main_v33 (idx_main_v34 (ix5 b h m t k)) = ix4 b h m t := by
    funext a
    match a with
    | ⟨0, _⟩ => rfl
    | ⟨1, _⟩ => rfl
    | ⟨2, _⟩ => rfl
    | ⟨3, _⟩ => rfl
  rw [val_main_v34_apply, val_main_v33_apply, e, val_main_v32_apply, val_main_v31_apply, val_main_cst_4_apply]
  generalize val_main_v30 x0 x1 x6 = y
  rfl

theorem exps_at (b : Fin 8) (h : Fin 4) (m : Fin 2) (t : Fin 4096) (k : Fin 4352) :
    val_main_v36 x0 x1 x6 (ix5 b h m t k) = Ideal.exp (val_main_v29 x0 x1 x6 (ix5 b h m t k) - val_main_v34 x0 x1 x6 (ix5 b h m t k)) := by
  unfold val_main_v36 val_main_v35
  generalize val_main_v29 x0 x1 x6 = y
  generalize val_main_v34 x0 x1 x6 = z
  pointwise []

theorem weights_at (b : Fin 8) (h : Fin 4) (m : Fin 2) (t : Fin 4096) (k : Fin 4352) :
    val_main_v40 x0 x1 x6 (ix5 b h m t k) = Ideal.div (val_main_v36 x0 x1 x6 (ix5 b h m t k))
      (∑ i, val_main_v36 x0 x1 x6 (ix5 b h m t i)) := by
  unfold val_main_v40 val_main_v39 val_main_v38 val_main_v37 val_main_cst_5
  generalize val_main_v36 x0 x1 x6 = y
  pointwise []

theorem lam_at : val_main_v26 x10 ix0 = lamOf fun i j => x10 (ix2 i j) := by
  pointwise [val_main_v26, val_main_v25, val_main_v24, val_main_v23, val_main_v22, val_main_v21, val_main_v20, val_main_v19, val_main_v18, val_main_v17, val_main_v16, val_main_v15, val_main_v14, val_main_v13, val_main_v12, val_main_v11, val_main_cst, val_main_cst_0, val_main_cst_1]
  simp [lamOf]

theorem first_at (b : Fin 8) (h : Fin 4) (t : Fin 4096) (k : Fin 4352) :
    val_main_v42 x0 x1 x6 (ix4 b h t k) = val_main_v40 x0 x1 x6 (ix5 b h 0 t k) := by
  unfold val_main_v42 val_main_v41
  generalize val_main_v40 x0 x1 x6 = y
  pointwise []

theorem second_at (b : Fin 8) (h : Fin 4) (t : Fin 4096) (k : Fin 4352) :
    val_main_v44 x0 x1 x6 (ix4 b h t k) = val_main_v40 x0 x1 x6 (ix5 b h 1 t k) := by
  unfold val_main_v44 val_main_v43
  generalize val_main_v40 x0 x1 x6 = y
  pointwise []

theorem mixed_at (b : Fin 8) (h : Fin 4) (t : Fin 4096) (k : Fin 4352) :
    val_main_v47 x0 x1 x6 x10 (ix4 b h t k) = val_main_v42 x0 x1 x6 (ix4 b h t k)
      - val_main_v26 x10 ix0 * val_main_v44 x0 x1 x6 (ix4 b h t k) := by
  rw [val_main_v47_apply, val_main_v46_apply, val_main_v45_apply]
  generalize val_main_v42 x0 x1 x6 = y
  generalize val_main_v44 x0 x1 x6 = z
  generalize val_main_v26 x10 = w
  have e : idx_main_v45 (ix4 b h t k) = ix0 := funext fun a => a.elim0
  rw [e]
  rfl

theorem averaged_at (b : Fin 8) (h : Fin 4) (t : Fin 4096) (y : Fin 128) :
    val_main_v49 x0 x1 x2 x6 x7 x10 (ix4 b t h y)
      = ∑ k, val_main_v6 x2 x7 (ix4 b k h y) * val_main_v47 x0 x1 x6 x10 (ix4 b h t k) := by
  unfold val_main_v49 val_main_v48
  generalize val_main_v47 x0 x1 x6 x10 = y
  generalize val_main_v6 x2 x7 = z
  pointwise []

theorem normed_at (b : Fin 8) (t : Fin 4096) (h : Fin 4) (x : Fin 128) :
    val_main_v84 x0 x1 x2 x6 x7 x10 x11 (ix3 b t (lane h x))
      = rms (fun y => val_main_v49 x0 x1 x2 x6 x7 x10 (ix4 b t h y)) (x11 (ix1 x)) x := by
  unfold val_main_v84 val_main_v65 val_main_v64 val_main_v63 val_main_v62 val_main_v61 val_main_v60 val_main_v59 val_main_v58
    val_main_v57 val_main_v56 val_main_v55 val_main_v54 val_main_v53 val_main_v52 val_main_v51 val_main_v50 val_main_cst_6
    val_main_cst_7 val_main_cst_8 val_main_cst_9 lane
  generalize val_main_v49 x0 x1 x2 x6 x7 x10 = y
  pointwise []
  simp only [rms]

/-- The reference's first result is the differential attention. -/
theorem diff_at (Q K V : Fin 8 → Fin 4096 → Fin 512 → ℝ) (CK CV : Fin 8 → Fin 256 → Fin 4 → Fin 128 → ℝ) (L : ℝ)
    (hQ : ∀ b t l, x0 (ix3 b t l) = (Q b t l : EReal)) (hK : ∀ b t l, x1 (ix3 b t l) = (K b t l : EReal))
    (hV : ∀ b t l, x2 (ix3 b t l) = (V b t l : EReal)) (hCK : ∀ b t h l, x6 (ix4 b t h l) = (CK b t h l : EReal))
    (hCV : ∀ b t h l, x7 (ix4 b t h l) = (CV b t h l : EReal)) (hL : (lamOf fun i j => x10 (ix2 i j)) = (L : EReal))
    (b : Fin 8) (t : Fin 4096) (h : Fin 4) (x : Fin 128) :
    val_main_v84 x0 x1 x2 x6 x7 x10 x11 (ix3 b t (lane h x)) = diffOut Q K V CK CV L (fun y => x11 (ix1 y)) b t h x := by
  have hs : ∀ m k, val_main_v29 x0 x1 x6 (ix5 b h m t k) = ((score (fun j => Q b t (lane h (half m j)))
      (fun i j => joined (fun u => K b u (lane h (half m j))) (fun u => CK b u h (half m j)) i) k : ℝ) : EReal) := by
    intro m k
    have hd : (∑ j, x0 (ix3 b t (lane h (half m j))) * val_main_v4 x1 x6 (ix5 b k h m j))
        = ((∑ j, Q b t (lane h (half m j)) * joined (fun u => K b u (lane h (half m j))) (fun u => CK b u h (half m j)) k : ℝ) : EReal) := by
      rw [← sum_coe]
      refine Finset.sum_congr rfl fun j _ => ?_
      rw [keys_at, hQ, EReal.coe_mul, ← joined_coe]
      simp only [hK, hCK]
    rw [scores_at, eighth, hd, ← EReal.coe_mul, score, mul_one_div]
  have hw : ∀ m k, val_main_v40 x0 x1 x6 (ix5 b h m t k) = ((weight (score (fun j => Q b t (lane h (half m j)))
      (fun i j => joined (fun u => K b u (lane h (half m j))) (fun u => CK b u h (half m j)) i)) k : ℝ) : EReal) := by
    intro m k
    rw [weights_at]
    simp only [exps_at, max_at, fold_at, minus_infinity]
    exact softmax (n := 4351) (fun i => val_main_v29 x0 x1 x6 (ix5 b h m t i)) _ (hs m) k
  rw [normed_at, diffOut, diffHead]
  refine congrArg (fun f => rms f (x11 (ix1 x)) x) (funext fun y => ?_)
  rw [averaged_at]
  refine Finset.sum_congr rfl fun k _ => ?_
  rw [mixed_at, first_at, second_at, lam_at, hL, hw, hw, values_at, ← joined_coe]
  simp only [hV, hCV]

end Diff

end Cert.ReferenceIdeal.Ref
end
-- ==== Proof.RefGroup.lean ====
module
public import proofs.«01_k».proof.Proof.Gen.ReferenceIdeal.Read
public import Idealize.ShloMosaic.Lib.Pipeline.ValueKit
public import proofs.«01_k».proof.Proof.AttnMath
@[expose] public section
set_option maxRecDepth 16384

/-! The reference read at one index: scores, softmax weights, averages, norm. -/

noncomputable section
namespace Cert.ReferenceIdeal.RefGroup
open Cert.ReferenceIdeal Cert.ReferenceIdeal.Read Idealize.ShloMosaic Idealize.ShloMosaic.TcCoe Idealize.SL.Sem Cert.Attn

/-- Arrays of the reference at the ideal values. -/
abbrev Arr (s : Shape) : Type := (⟨s, .f32⟩ : BufTy).Contents (Elt Ideal)

theorem own_or_context {α : Type} (own : Fin 4096 → α) (ctx : Fin 256 → α) (i : Fin 4352) :
    (if h : i.val < 4096 then own ⟨i.val, h⟩ else ctx ⟨i.val - 4096, by omega⟩) = joined own ctx i := rfl

section Group
variable (x3 : Arr S8x4096x512) (x4 x5 : Arr S8x4096x128) (x8 x9 : Arr S8x256x2x64)

theorem group_keys_at (b : Fin 8) (k : Fin 4352) (g : Fin 2) (j : Fin 64) :
    val_main_v8 x4 x8 (ix4 b k g j) = joined (fun i => x4 (ix3 b i (klane g j))) (fun i => x8 (ix4 b i g j)) k := by
  pointwise [val_main_v8, val_main_v7]
  simp only [joined, klane]

theorem group_values_at (b : Fin 8) (k : Fin 4352) (g : Fin 2) (j : Fin 64) :
    val_main_v10 x5 x9 (ix4 b k g j) = joined (fun i => x5 (ix3 b i (klane g j))) (fun i => x9 (ix4 b i g j)) k := by
  pointwise [val_main_v10, val_main_v9]
  simp only [joined, klane]

theorem group_dots_at (b : Fin 8) (g : Fin 2) (q : Fin 4) (t : Fin 4096) (k : Fin 4352) :
    val_main_v67 x3 x4 x8 (ix5 b g q t k) = ∑ j, val_main_v8 x4 x8 (ix4 b k g j) * val_main_v1 x3 (ix5 b t g q j) := by
  unfold val_main_v67 val_main_v66
  generalize val_main_v8 x4 x8 = y
  generalize val_main_v1 x3 = z
  pointwise []

theorem group_queries_at (b : Fin 8) (t : Fin 4096) (g : Fin 2) (q : Fin 4) (j : Fin 64) :
    val_main_v1 x3 (ix5 b t g q j) = x3 (ix3 b t ⟨g.val * 256 + q.val * 64 + j.val, by omega⟩) := by
  pointwise [val_main_v1]

theorem group_scores_at (b : Fin 8) (g : Fin 2) (q : Fin 4) (t : Fin 4096) (k : Fin 4352) :
    val_main_v69 x3 x4 x8 (ix5 b g q t k) = val_main_v67 x3 x4 x8 (ix5 b g q t k) * Ideal.ofBits .f32 0x3E000000#32 := by
  rw [val_main_v69_apply, val_main_v68_apply, val_main_cst_10_apply]
  generalize val_main_v67 x3 x4 x8 = y
  rfl

theorem group_fold_at (b : Fin 8) (g : Fin 2) (q : Fin 4) (t : Fin 4096) :
    val_main_v70 x3 x4 x8 (ix4 b g q t) = Finset.univ.fold max (Ideal.ofBits .f32 0xFF800000#32)
          (fun i => val_main_v69 x3 x4 x8 (ix5 b g q t i)) := by
  unfold val_main_v70 val_main_cst_11
  generalize val_main_v69 x3 x4 x8 = y
  pointwise []

theorem group_max_at (b : Fin 8) (g : Fin 2) (q : Fin 4) (t : Fin 4096) (k : Fin 4352) :
    val_main_v74 x3 x4 x8 (ix5 b g q t k) = max (Ideal.ofBits .f32 0xFF800000#32) (val_main_v70 x3 x4 x8 (ix4 b g q t)) := by
  have e : idx_main_v73 (idx_main_v74 (ix5 b g q t k)) = ix4 b g q t := by
    funext a
    match a with
    | ⟨0, _⟩ => rfl
    | ⟨1, _⟩ => rfl
    | ⟨2, _⟩ => rfl
    | ⟨3, _⟩ => rfl
  rw [val_main_v74_apply, val_main_v73_apply, e, val_main_v72_apply, val_main_v71_apply, val_main_cst_12_apply]
  generalize val_main_v70 x3 x4 x8 = y
  rfl

theorem group_exps_at (b : Fin 8) (g : Fin 2) (q : Fin 4) (t : Fin 4096) (k : Fin 4352) :
    val_main_v76 x3 x4 x8 (ix5 b g q t k)
      = Ideal.exp (val_main_v69 x3 x4 x8 (ix5 b g q t k) - val_main_v74 x3 x4 x8 (ix5 b g q t k)) := by
  unfold val_main_v76 val_main_v75
  generalize val_main_v69 x3 x4 x8 = y
  generalize val_main_v74 x3 x4 x8 = z
  pointwise []

theorem group_weights_at (b : Fin 8) (g : Fin 2) (q : Fin 4) (t : Fin 4096) (k : Fin 4352) :
    val_main_v80 x3 x4 x8 (ix5 b g q t k) = Ideal.div (val_main_v76 x3 x4 x8 (ix5 b g q t k))
      (∑ i, val_main_v76 x3 x4 x8 (ix5 b g q t i)) := by
  unfold val_main_v80 val_main_v79 val_main_v78 val_main_v77 val_main_cst_13
  generalize val_main_v76 x3 x4 x8 = y
  pointwise []

theorem group_averaged_at (b : Fin 8) (g : Fin 2) (q : Fin 4) (t : Fin 4096) (x : Fin 64) :
    val_main_v82 x3 x4 x5 x8 x9 (ix5 b t g q x)
      = ∑ k, val_main_v10 x5 x9 (ix4 b k g x) * val_main_v80 x3 x4 x8 (ix5 b g q t k) := by
  unfold val_main_v82 val_main_v81
  generalize val_main_v80 x3 x4 x8 = y
  generalize val_main_v10 x5 x9 = z
  pointwise []

theorem group_shaped_at (b : Fin 8) (t : Fin 4096) (g : Fin 2) (q : Fin 4) (x : Fin 64) :
    val_main_v85 x3 x4 x5 x8 x9 (ix3 b t ⟨g.val * 256 + q.val * 64 + x.val, by omega⟩)
      = val_main_v82 x3 x4 x5 x8 x9 (ix5 b t g q x) := by
  unfold val_main_v85 val_main_v83
  generalize val_main_v82 x3 x4 x5 x8 x9 = y
  pointwise []

/-- The reference's second result is the grouped-query attention. -/
theorem group_at (Q : Fin 8 → Fin 4096 → Fin 512 → ℝ) (K : Fin 8 → Fin 4096 → Fin 128 → ℝ)
    (CK : Fin 8 → Fin 256 → Fin 2 → Fin 64 → ℝ)
    (hQ : ∀ b t l, x3 (ix3 b t l) = (Q b t l : EReal)) (hK : ∀ b t l, x4 (ix3 b t l) = (K b t l : EReal))
    (hCK : ∀ b t h l, x8 (ix4 b t h l) = (CK b t h l : EReal)) (b : Fin 8) (t : Fin 4096) (h : Fin 8) (x : Fin 64) :
    val_main_v85 x3 x4 x5 x8 x9 (ix3 b t (qlane h x))
      = groupOut Q K (fun b t l => x5 (ix3 b t l)) CK (fun b t g l => x9 (ix4 b t g l)) b t h x := by
  have hl : ∀ j : Fin 64, qlane h j = ⟨(grp h).val * 256 + h.val % 4 * 64 + j.val, by have := (grp h).isLt; omega⟩ :=
    fun j => Fin.ext (by simp only [qlane, grp]; omega)
  have hs : ∀ k, val_main_v69 x3 x4 x8 (ix5 b (grp h) ⟨h.val % 4, by omega⟩ t k) = ((score (fun j => Q b t (qlane h j))
      (fun i j => joined (fun u => K b u (klane (grp h) j)) (fun u => CK b u (grp h) j) i) k : ℝ) : EReal) := by
    intro k
    have hd : (∑ j, val_main_v8 x4 x8 (ix4 b k (grp h) j) * val_main_v1 x3 (ix5 b t (grp h) ⟨h.val % 4, by omega⟩ j))
        = ((∑ j, Q b t (qlane h j) * joined (fun u => K b u (klane (grp h) j)) (fun u => CK b u (grp h) j) k : ℝ) : EReal) := by
      rw [← sum_coe]
      refine Finset.sum_congr rfl fun j _ => ?_
      rw [group_keys_at, group_queries_at, mul_comm, EReal.coe_mul, ← joined_coe, hl, ← hQ]
      simp only [hK, hCK]
    rw [group_scores_at, group_dots_at, eighth, hd, ← EReal.coe_mul, score, mul_one_div]
  have hw : ∀ k, val_main_v80 x3 x4 x8 (ix5 b (grp h) ⟨h.val % 4, by omega⟩ t k) = ((weight (score (fun j => Q b t (qlane h j))
      (fun i j => joined (fun u => K b u (klane (grp h) j)) (fun u => CK b u (grp h) j) i)) k : ℝ) : EReal) := by
    intro k
    rw [group_weights_at]
    simp only [group_exps_at, group_max_at, group_fold_at, minus_infinity]
    exact softmax (n := 4351) (fun i => val_main_v69 x3 x4 x8 (ix5 b (grp h) ⟨h.val % 4, by omega⟩ t i)) _ hs k
  rw [hl x, group_shaped_at x3 x4 x5 x8 x9 b t (grp h) ⟨h.val % 4, by omega⟩ x, group_averaged_at, groupOut, groupHead]
  refine Finset.sum_congr rfl fun k _ => ?_
  rw [hw, group_values_at]

end Group
end Cert.ReferenceIdeal.RefGroup
end
-- ==== Proof.Pre.lean ====
module
public import proofs.«01_k».proof.Pre_finite
public import Idealize.ShloMosaic.Lib.ReduceAll
public import Idealize.ShloMosaic.Lib.Pipeline.ValueKit
@[expose] public section
set_option maxRecDepth 16384

/-! The precondition read back: every number of nine arrays is a real number. -/

noncomputable section
namespace Cert.Pre_finite
open Idealize.ShloMosaic

theorem facts : Facts where
  bcast_S_S8x4096x512 := by decide
  reducesTo_S8x4096x512_S_d0_1_2 := by decide
  h_S_ := by decide
  bcast_S_S8x4096x128 := by decide
  reducesTo_S8x4096x128_S_d0_1_2 := by decide
  bcast_S_S8x256x4x128 := by decide
  reducesTo_S8x256x4x128_S_d0_1_2_3 := by decide
  bcast_S_S8x256x2x64 := by decide
  reducesTo_S8x256x2x64_S_d0_1_2_3 := by decide
  bcast_S_S4x64 := by decide
  reducesTo_S4x64_S_d0_1 := by decide

/-- A number whose absolute value lies below infinity is a real number. -/
theorem real_of_abs_lt (x : EReal) (h : Ideal.cmp .olt (max x (-x)) (Ideal.ofBits .f32 0x7F800000#32) = 1#1) :
    ∃ r : ℝ, x = (r : EReal) := by
  have hi : Ideal.ofBits .f32 0x7F800000#32 = ⊤ := by simp [Ideal.ofBits, Ideal.ieee]
  rw [hi] at h
  have hlt : max x (-x) < ⊤ := by
    by_contra hn
    simp [Ideal.cmp, hn] at h
  rw [max_lt_iff] at hlt
  induction x using EReal.rec with
  | bot => exact absurd hlt.2 (by simp)
  | top => exact absurd hlt.1 (by simp)
  | coe r => exact ⟨r, rfl⟩

theorem all_real {s : Shape} (x : FVec Ideal s .f32) (h : S_.BroadcastsInDim s (![] : Fin 0 → Fin s.rank))
    (i : s.Idx) (e : cmpf .olt (Host.absf x) (broadcastInDim s ![] h (constant S_ .f32 0x7F800000#32)) i = 1#1) :
    ∃ r : ℝ, x i = (r : EReal) := by
  apply real_of_abs_lt
  exact e

instance : Subsingleton S_.Idx := ⟨fun _ _ => funext fun a => a.elim0⟩

/-- A `jnp.all` of the comparison that holds makes every number a real number. -/
theorem all_real_of_reduce {s : Shape} {axes : List (Fin s.rank)} (x : FVec Ideal s .f32) (h : S_.BroadcastsInDim s (![] : Fin 0 → Fin s.rank))
    (hr : s.ReducesTo axes S_) (hu : 0 < S_.numel) (j : S_.Idx)
    (e : Host.reduce IntOp.andi (cmpf .olt (Host.absf x) (broadcastInDim s ![] h (constant S_ .f32 0x7F800000#32)))
      (constantI S_ 1 1#1) hr hu j = 1#1) (i : s.Idx) : ∃ r : ℝ, x i = (r : EReal) :=
  all_real x h i (Host.reduce_andi_all _ _ hr hu j e i)

/-- The precondition, read back. -/
theorem reals [Facts] (x0 x1 x2 x3 : FVec Ideal S8x4096x512 .f32) (x4 x5 : FVec Ideal S8x4096x128 .f32)
    (x6 x7 : FVec Ideal S8x256x4x128 .f32) (x8 x9 : FVec Ideal S8x256x2x64 .f32) (x10 : FVec Ideal S4x64 .f32)
    (x11 : FVec Ideal S128 .f32) (h : fn x0 x1 x2 x3 x4 x5 x6 x7 x8 x9 x10 x11 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x6 i = (r : EReal))
      ∧ (∀ i, ∃ r : ℝ, x7 i = (r : EReal)) ∧ (∀ i, ∃ r : ℝ, x8 i = (r : EReal)) ∧ (∀ i, ∃ r : ℝ, x10 i = (r : EReal)) := by
  have e : fn x0 x1 x2 x3 x4 x5 x6 x7 x8 x9 x10 x11 (fun a => a.elim0) = 1#1 := congrFun h _
  dsimp only [fn, fn_part1, fn_part2] at e
  obtain ⟨e, e10⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real_of_reduce _ _ _ _ _ e0, all_real_of_reduce _ _ _ _ _ e1, all_real_of_reduce _ _ _ _ _ e2,
    all_real_of_reduce _ _ _ _ _ e3, all_real_of_reduce _ _ _ _ _ e4, all_real_of_reduce _ _ _ _ _ e6,
    all_real_of_reduce _ _ _ _ _ e7, all_real_of_reduce _ _ _ _ _ e8, all_real_of_reduce _ _ _ _ _ e10⟩

end Cert.Pre_finite
end
-- ==== Proof.Final.lean ====
module
public import proofs.«01_k».proof.Proof.Diff
public import proofs.«01_k».proof.Proof.Group
public import proofs.«01_k».proof.Proof.Ref
public import proofs.«01_k».proof.Proof.RefGroup
public import proofs.«01_k».proof.Proof.Pre
@[expose] public section
set_option maxRecDepth 16384

/-! The kernel's two arrays after its run are the reference's two results of the same arguments. -/

noncomputable section
namespace Cert.Final
open Cert.KernelIdeal Cert.KernelIdeal.Gen Cert.KernelIdeal.Arrays Idealize.ShloMosaic Idealize.ShloMosaic.TcCoe Idealize.SL.Sem Cert.Attn

variable (m : (ℓ : Loc nD τ sig) → Buf (Elt Ideal) ℓ) (c : Dev nD)

theorem lam_real (x : Fin 4 → Fin 64 → EReal) (h : ∀ i j, ∃ r : ℝ, x i j = (r : EReal)) : ∃ L : ℝ, lamOf x = (L : EReal) := by
  choose l hl using h
  obtain ⟨L, hL⟩ := lamOf_real l
  exact ⟨L, by rw [← hL]; congr 1; funext i j; exact hl i j⟩

theorem lane_split (l : Fin 512) : lane (headOf l) (laneOf l) = l :=
  Fin.ext (by simp only [lane, headOf, laneOf]; omega)

theorem qlane_split (l : Fin 512) : qlane (queryHead l) (queryLane l) = l :=
  Fin.ext (by simp only [qlane, queryHead, queryLane]; omega)

theorem diff_result (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal))
    (h6 : ∀ i, ∃ r : ℝ, m ((c : Thread nD τ).loc main_arg6) i = (r : EReal))
    (h7 : ∀ i, ∃ r : ℝ, m ((c : Thread nD τ).loc main_arg7) i = (r : EReal))
    (h10 : ∀ i, ∃ r : ℝ, m ((c : Thread nD τ).loc main_arg10) i = (r : EReal)) :
    (dats m 0 c).arrAt 8 cfg0.N = Cert.ReferenceIdeal.Read.val_main_v84 (m ((c : Thread nD τ).loc main_arg0))
      (m ((c : Thread nD τ).loc main_arg1)) (m ((c : Thread nD τ).loc main_arg2)) (m ((c : Thread nD τ).loc main_arg6))
      (m ((c : Thread nD τ).loc main_arg7)) (m ((c : Thread nD τ).loc main_arg10)) (m ((c : Thread nD τ).loc main_arg11)) := by
  choose Q hQ using fun b t l => h0 (ix3 b t l)
  choose K hK using fun b t l => h1 (ix3 b t l)
  choose W hW using fun b t l => h2 (ix3 b t l)
  choose CK hCK using fun b t h l => h6 (ix4 b t h l)
  choose CW hCW using fun b t h l => h7 (ix4 b t h l)
  obtain ⟨L, hL⟩ := lam_real (fun i j => m ((c : Thread nD τ).loc main_arg10) (ix2 i j)) fun i j => h10 (ix2 i j)
  rw [diff_final (Q := Q) (K := K) (W := W) (CK := CK) (CW := CW) (L := L) ⟨hQ, hK, hW, hCK, hCW, hL⟩]
  funext i
  have e : i = ix3 (i 0) (i 1) (lane (headOf (i 2)) (laneOf (i 2))) := by
    funext a
    match a with
    | ⟨0, _⟩ => rfl
    | ⟨1, _⟩ => rfl
    | ⟨2, _⟩ => exact (lane_split (i 2)).symm
  refine (Cert.ReferenceIdeal.Ref.diff_at _ _ _ _ _ _ _ Q K W CK CW L hQ hK hW hCK hCW hL (i 0) (i 1) (headOf (i 2))
    (laneOf (i 2))).symm.trans ?_
  exact congrArg _ e.symm

theorem group_result (h3 : ∀ i, ∃ r : ℝ, m ((c : Thread nD τ).loc main_arg3) i = (r : EReal))
    (h4 : ∀ i, ∃ r : ℝ, m ((c : Thread nD τ).loc main_arg4) i = (r : EReal))
    (h8 : ∀ i, ∃ r : ℝ, m ((c : Thread nD τ).loc main_arg8) i = (r : EReal)) :
    (dats m 0 c).arrAt 9 cfg0.N = Cert.ReferenceIdeal.Read.val_main_v85 (m ((c : Thread nD τ).loc main_arg3))
      (m ((c : Thread nD τ).loc main_arg4)) (m ((c : Thread nD τ).loc main_arg5)) (m ((c : Thread nD τ).loc main_arg8))
      (m ((c : Thread nD τ).loc main_arg9)) := by
  choose Q hQ using fun b t l => h3 (ix3 b t l)
  choose K hK using fun b t l => h4 (ix3 b t l)
  choose CK hCK using fun b t h l => h8 (ix4 b t h l)
  rw [group_final (Q := Q) (K := K) (CK := CK) ⟨hQ, hK, hCK⟩]
  funext i
  have e : i = ix3 (i 0) (i 1) (qlane (queryHead (i 2)) (queryLane (i 2))) := by
    funext a
    match a with
    | ⟨0, _⟩ => rfl
    | ⟨1, _⟩ => rfl
    | ⟨2, _⟩ => exact (qlane_split (i 2)).symm
  refine (Cert.ReferenceIdeal.RefGroup.group_at _ _ _ _ _ Q K CK hQ hK hCK (i 0) (i 1) (queryHead (i 2))
    (queryLane (i 2))).symm.trans ?_
  exact congrArg _ e.symm

end Cert.Final
end
-- ==== Proof.ProjMath.lean ====
module
public import proofs.«01_k».proof.Proof.AttnMath
@[expose] public section

/-! The arithmetic of one token of the input projection: the modulated layer norm, the projection, the norm of a head and
    its rotation, over the extended reals. -/

noncomputable section
namespace Cert.Proj
open Idealize.ShloMosaic Cert.Attn
open scoped BigOperators

/-- Lane `l` of head `h` among eight heads of 64 lanes. -/
def at8 (h : Fin 8) (l : Fin 64) : Fin 512 := ⟨h.val * 64 + l.val, by omega⟩

/-- Lane `l` of head `h` among two heads of 64 lanes. -/
def at2 (h : Fin 2) (l : Fin 64) : Fin 128 := ⟨h.val * 64 + l.val, by omega⟩

/-- The lanes of a rotated pair. -/
def ev (p : Fin 32) : Fin 64 := ⟨2 * p.val, by omega⟩
def od (p : Fin 32) : Fin 64 := ⟨2 * p.val + 1, by omega⟩

def pr (l : Fin 64) : Fin 32 := ⟨l.val / 2, by omega⟩
def hd8 (j : Fin 512) : Fin 8 := ⟨j.val / 64, by omega⟩
def hd2 (j : Fin 128) : Fin 2 := ⟨j.val / 64, by omega⟩
def ln8 (j : Fin 512) : Fin 64 := ⟨j.val % 64, by omega⟩
def ln2 (j : Fin 128) : Fin 64 := ⟨j.val % 64, by omega⟩

theorem split8 (j : Fin 512) : at8 (hd8 j) (ln8 j) = j := Fin.ext (by simp only [at8, hd8, ln8]; omega)
theorem split2 (j : Fin 128) : at2 (hd2 j) (ln2 j) = j := Fin.ext (by simp only [at2, hd2, ln2]; omega)
theorem hd8_at (h : Fin 8) (l : Fin 64) : hd8 (at8 h l) = h := Fin.ext (by simp only [at8, hd8]; omega)
theorem ln8_at (h : Fin 8) (l : Fin 64) : ln8 (at8 h l) = l := Fin.ext (by simp only [at8, ln8]; omega)
theorem hd2_at (h : Fin 2) (l : Fin 64) : hd2 (at2 h l) = h := Fin.ext (by simp only [at2, hd2]; omega)
theorem ln2_at (h : Fin 2) (l : Fin 64) : ln2 (at2 h l) = l := Fin.ext (by simp only [at2, ln2]; omega)

theorem lane_cases (l : Fin 64) : l = ev (pr l) ∨ l = od (pr l) := by
  rcases Nat.mod_two_eq_zero_or_one l.val with h | h
  · exact Or.inl (Fin.ext (by simp only [ev, pr]; omega))
  · exact Or.inr (Fin.ext (by simp only [od, pr]; omega))

/-- The mean of a row. -/
def mean (x : Fin 1024 → EReal) : EReal := Ideal.div (∑ k, x k) (Ideal.ofBits .f32 0x44800000#32)

/-- The layer norm of a row, scaled and shifted by the first two parts of its modulation. -/
def token (x : Fin 1024 → EReal) (u : Fin 6144 → EReal) (k : Fin 1024) : EReal :=
  (x k - mean x) * Ideal.rsqrt (Ideal.div (∑ i, (x i - mean x) * (x i - mean x)) (Ideal.ofBits .f32 0x44800000#32)
      + Ideal.ofBits .f32 0x358637BD#32) * (1 + u ⟨1024 + k.val, by omega⟩) + u ⟨k.val, by omega⟩

/-- One number of the projection. -/
def proj (x : Fin 1024 → EReal) (u : Fin 6144 → EReal) (w : Fin 1024 → Fin 5888 → EReal) (j : Fin 5888) : EReal :=
  ∑ k, token x u k * w k j

/-- Column `j` of a part of the projection that begins at `o`. -/
def col {n : ℕ} (o : ℕ) (h : o + n ≤ 5888) (j : Fin n) : Fin 5888 := ⟨o + j.val, by omega⟩

/-- The rotation of a head, its lanes taken in pairs. -/
def rope (y : Fin 64 → EReal) (c s : Fin 32 → EReal) (l : Fin 64) : EReal :=
  if l.val % 2 = 0 then y (ev (pr l)) * c (pr l) - y (od (pr l)) * s (pr l)
  else y (ev (pr l)) * s (pr l) + y (od (pr l)) * c (pr l)

theorem pr_ev (p : Fin 32) : pr (ev p) = p := Fin.ext (by simp only [pr, ev]; omega)
theorem pr_od (p : Fin 32) : pr (od p) = p := Fin.ext (by simp only [pr, od]; omega)

theorem rope_ev (y : Fin 64 → EReal) (c s : Fin 32 → EReal) (p : Fin 32) :
    rope y c s (ev p) = y (ev p) * c p - y (od p) * s p := by
  rw [rope, if_pos (by simp only [ev]; omega), pr_ev]

theorem rope_od (y : Fin 64 → EReal) (c s : Fin 32 → EReal) (p : Fin 32) :
    rope y c s (od p) = y (ev p) * s p + y (od p) * c p := by
  rw [rope, if_neg (by simp only [od]; omega), pr_od]

/-- The root-mean-square norm of a head with its gain. -/
def norm (y : Fin 64 → EReal) (g : Fin 64 → EReal) (l : Fin 64) : EReal :=
  y l * Ideal.rsqrt (Ideal.div (∑ i, y i * y i) (Ideal.ofBits .f32 0x42800000#32) + Ideal.ofBits .f32 0x358637BD#32) * g l

theorem minus_one : Ideal.ofBits .f32 0xBF800000#32 = -1 := by
  simp [Ideal.ofBits, Ideal.ieee, -EReal.coe_mul]; norm_num

theorem one_value : Ideal.ofBits .f32 0x3F800000#32 = 1 := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem lanes : Ideal.ofBits .f32 0x42800000#32 = ((64 : ℝ) : EReal) := by
  simp [Ideal.ofBits, Ideal.ieee, -EReal.coe_mul]; norm_num

theorem share : Ideal.ofBits .f32 0x3C800000#32 = ((1 / 64 : ℝ) : EReal) := by
  simp [Ideal.ofBits, Ideal.ieee, -EReal.coe_mul]; norm_num

theorem eps_pos : ∃ e : ℝ, 0 < e ∧ Ideal.ofBits .f32 0x358637BD#32 = (e : EReal) := by
  simp [Ideal.ofBits, Ideal.ieee, -EReal.coe_mul]

/-- A sum over heads and lanes against a column that is constant on one head and zero elsewhere. -/
theorem head_sum {H : ℕ} (f : Fin (H * 64) → EReal) (a : EReal) (h : Fin H) :
    (∑ x, f x * (if x.val / 64 = h.val then a else 0)) = ∑ l : Fin 64, f ⟨h.val * 64 + l.val, by have := h.isLt; have := l.isLt; nlinarith⟩ * a := by
  rw [← Equiv.sum_comp finProdFinEquiv, Fintype.sum_prod_type, Finset.sum_eq_single h]
  · refine Finset.sum_congr rfl fun l _ => ?_
    have e : finProdFinEquiv (h, l) = (⟨h.val * 64 + l.val, by have := h.isLt; have := l.isLt; nlinarith⟩ : Fin (H * 64)) :=
      Fin.ext (by simp only [finProdFinEquiv_apply_val]; ring)
    rw [e, if_pos (by simp only []; omega)]
  · intro b _ hb
    refine Finset.sum_eq_zero fun l _ => ?_
    have e : (finProdFinEquiv (b, l)).val / 64 ≠ h.val := by
      simp only [finProdFinEquiv_apply_val]
      have := Fin.val_ne_of_ne hb
      omega
    rw [if_neg e, mul_zero]
  · intro hn
    exact absurd (Finset.mem_univ h) hn

/-- The mean square of a head, as the kernel takes it: the squares in two parts against a column of sixty-fourths. -/
theorem mean_square {H : ℕ} (y : Fin (H * 64) → EReal) (b : Fin (H * 64) → EReal) (h : Fin H)
    (hy : ∀ i, ∃ r : ℝ, y i = (r : EReal)) (hb : ∀ x, b x = if x.val / 64 = h.val then ((1 / 64 : ℝ) : EReal) else 0) :
    (∑ x, y x * y x * b x) + (∑ x, (y x * y x - y x * y x) * b x)
      = Ideal.div (∑ l : Fin 64, y ⟨h.val * 64 + l.val, by have := h.isLt; have := l.isLt; nlinarith⟩
          * y ⟨h.val * 64 + l.val, by have := h.isLt; have := l.isLt; nlinarith⟩) (Ideal.ofBits .f32 0x42800000#32) := by
  have h0 : (∑ x, (y x * y x - y x * y x) * b x) = 0 := by
    refine Finset.sum_eq_zero fun x _ => ?_
    obtain ⟨r, hr⟩ := hy x
    rw [hr, ← EReal.coe_mul, ← EReal.coe_sub, sub_self, EReal.coe_zero, zero_mul]
  have h1 : (∑ x, y x * y x * b x) = ∑ x, y x * y x * (if x.val / 64 = h.val then ((1 / 64 : ℝ) : EReal) else 0) :=
    Finset.sum_congr rfl fun x _ => by rw [hb]
  rw [h0, add_zero, h1, head_sum (fun x => y x * y x), lanes, Ideal.div_coe (by norm_num),
    sum_mul_coe _ _ _ (by norm_num)]

theorem mean_real (x : Fin 1024 → EReal) (hx : ∀ k, ∃ r : ℝ, x k = (r : EReal)) : ∃ r : ℝ, mean x = (r : EReal) := by
  choose f hf using hx
  refine ⟨(∑ k, f k) * (1 / 1024), ?_⟩
  simp only [mean, hf, sum_coe, width]
  rw [Ideal.div_coe (by norm_num), ← EReal.coe_mul]

theorem token_real (x : Fin 1024 → EReal) (u : Fin 6144 → EReal) (hx : ∀ k, ∃ r : ℝ, x k = (r : EReal))
    (hu : ∀ k : Fin 6144, k.val < 2048 → ∃ r : ℝ, u k = (r : EReal)) (k : Fin 1024) :
    ∃ r : ℝ, token x u k = (r : EReal) := by
  obtain ⟨a, ha⟩ := mean_real x hx
  obtain ⟨e, he, hee⟩ := eps_pos
  choose f hf using hx
  obtain ⟨p, hp⟩ := hu ⟨1024 + k.val, by omega⟩ (by simp only []; omega)
  obtain ⟨q, hq⟩ := hu ⟨k.val, by omega⟩ (by simp only []; omega)
  have hv : 0 < (∑ i, (f i - a) * (f i - a)) * (1 / 1024) + e :=
    add_pos_of_nonneg_of_pos (mul_nonneg (Finset.sum_nonneg fun i _ => mul_self_nonneg _) (by norm_num)) he
  have hs : (∑ i, (x i - mean x) * (x i - mean x)) = ((∑ i, (f i - a) * (f i - a) : ℝ) : EReal) := by
    rw [← sum_coe]
    exact Finset.sum_congr rfl fun i _ => by rw [ha, hf, ← EReal.coe_sub, ← EReal.coe_mul]
  refine ⟨(f k - a) * (Real.sqrt ((∑ i, (f i - a) * (f i - a)) * (1 / 1024) + e))⁻¹ * (1 + p) + q, ?_⟩
  unfold token
  rw [hs, ha, hf, hp, hq, hee, width, Ideal.div_coe (by norm_num), ← EReal.coe_mul, ← EReal.coe_add, Ideal.rsqrt_coe,
    if_neg (not_lt.2 hv.le), if_neg hv.ne', ← EReal.coe_sub, ← EReal.coe_one, ← EReal.coe_add, ← EReal.coe_mul,
    ← EReal.coe_mul, ← EReal.coe_add]

theorem proj_real (x : Fin 1024 → EReal) (u : Fin 6144 → EReal) (w : Fin 1024 → Fin 5888 → EReal) (j : Fin 5888)
    (hx : ∀ k, ∃ r : ℝ, x k = (r : EReal)) (hu : ∀ k : Fin 6144, k.val < 2048 → ∃ r : ℝ, u k = (r : EReal))
    (hw : ∀ k, ∃ r : ℝ, w k j = (r : EReal)) : ∃ r : ℝ, proj x u w j = (r : EReal) := by
  choose f hf using token_real x u hx hu
  choose v hv using hw
  exact ⟨∑ k, f k * v k, by simp only [proj, hf, hv, ← EReal.coe_mul, sum_coe]⟩

/-- A tile of 128 columns written four times side by side. -/
def four (c : Fin 128 → EReal) (j : Fin 512) : EReal :=
  if h : j.val < 128 then c ⟨j.val, h⟩
  else if h : j.val - 128 < 128 then c ⟨j.val - 128, h⟩
  else if h : j.val - 128 - 128 < 128 then c ⟨j.val - 128 - 128, h⟩
  else c ⟨j.val - 128 - 128 - 128, by omega⟩

theorem four_at (c : Fin 128 → EReal) (t : Fin 64 → EReal) (hc : ∀ h l, c (at2 h l) = t l) (h : Fin 8) (l : Fin 64) :
    four c (at8 h l) = t l := by
  have key : ∀ j : Fin 128, j.val % 64 = l.val → c j = t l := by
    intro j hj
    rw [← split2 j, hc]
    congr 1
    exact Fin.ext hj
  have e : (at8 h l).val = h.val * 64 + l.val := rfl
  generalize at8 h l = j at e
  unfold four
  by_cases h1 : j.val < 128
  · rw [dif_pos h1]
    exact key _ (by dsimp only; omega)
  rw [dif_neg h1]
  by_cases h2 : j.val - 128 < 128
  · rw [dif_pos h2]
    exact key _ (by dsimp only; omega)
  rw [dif_neg h2]
  by_cases h3 : j.val - 128 - 128 < 128
  · rw [dif_pos h3]
    exact key _ (by dsimp only; omega)
  rw [dif_neg h3]
  exact key _ (by dsimp only; omega)

end Cert.Proj
end
-- ==== Proof.ProjBlock.lean ====
module
public import proofs.«01_k».proof.Proof.Gen.Kernel2Ideal.Value
public import Idealize.ShloMosaic.Lib.Pipeline.ValueKit
public import proofs.«01_k».proof.Proof.ProjMath
@[expose] public section
set_option maxRecDepth 16384

/-! What the projection's body computes, read at one row and column of a tile. -/

noncomputable section
namespace Cert.Kernel2Ideal.Block
open Cert.Kernel2Ideal Cert.Kernel2Ideal.Gen Idealize.ShloMosaic Idealize.ShloMosaic.TcCoe Idealize.SL.Sem Cert.Proj

theorem token_tile (u : Vec Ideal S1x1x6144 .f32) (x : Vec Ideal S256x1024 .f32) (r : Fin 256) (k : Fin 1024) :
    k0_pay4 (F := Ideal) u x (ix2 r k) = token (fun k => x (ix2 r k)) (fun k => u (ix3 0 0 k)) k := by
  pointwise [k0_pay4]
  rfl

theorem parity8 : ∀ j : Fin 512, IntOp.cmpi .eq (IntOp.andi (BitVec.ofNat 32 j.val) 1#32) 0#32
    = if j.val % 2 = 0 then 1#1 else 0#1 := by decide +kernel

theorem parity2 : ∀ j : Fin 128, IntOp.cmpi .eq (IntOp.andi (BitVec.ofNat 32 j.val) 1#32) 0#32
    = if j.val % 2 = 0 then 1#1 else 0#1 := by decide +kernel

/-- The sign that the kernel's table of sines carries. -/
def sign (l : Fin 64) : EReal := if l.val % 2 = 0 then -1 else 1

theorem select_one (a b : EReal) : Scalar.select 1#1 a b = a := rfl
theorem select_zero (a b : EReal) : Scalar.select 0#1 a b = b := rfl

/-- A pair of lanes rotated with a signed sine is the rotation of the pair. -/
theorem pair_turn (y : Fin 64 → EReal) (C S : Fin 32 → EReal) (l : Fin 64) :
    y l * C (pr l) + (if l.val % 2 = 0 then y (od (pr l)) else y (ev (pr l))) * (S (pr l) * sign l) = rope y C S l := by
  rcases lane_cases l with h | h
  · generalize pr l = p at h
    subst h
    have e : (ev p).val % 2 = 0 := by simp only [ev]; omega
    rw [rope_ev, if_pos e, sign, if_pos e, mul_neg, mul_neg, mul_one, sub_eq_add_neg]
  · generalize pr l = p at h
    subst h
    have e : ¬ (od p).val % 2 = 0 := by simp only [od]; omega
    rw [rope_od, if_neg e, sign, if_neg e, mul_one, add_comm]

/-- The rotation of eight heads beside each other: the partner lane comes from the left or from the right. -/
theorem turn8 (f : Fin 512 → EReal) (c s : Fin 128 → EReal) (C S : Fin 32 → EReal) (hc : ∀ h l, c (at2 h l) = C (pr l))
    (hs : ∀ h l, s (at2 h l) = S (pr l) * sign l) (j : Fin 512) :
    f j * four c j + Scalar.select (IntOp.cmpi .eq (IntOp.andi (BitVec.ofNat 32 j.val) 1#32) 0#32)
        (f ⟨(j.val + 512 - 511) % 512, Nat.mod_lt _ (by decide)⟩) (f ⟨(j.val + 512 - 1) % 512, Nat.mod_lt _ (by decide)⟩) * four s j
      = rope (fun l => f (at8 (hd8 j) l)) C S (ln8 j) := by
  rw [← pair_turn, parity8]
  conv_lhs => rw [← split8 j]
  rw [four_at c _ hc, four_at s _ hs, split8]
  have hp : (ln8 j).val % 2 = j.val % 2 := by simp only [ln8]; omega
  rw [hp]
  congr 2
  split_ifs with h
  · rw [select_one]
    congr 1
    exact Fin.ext (by simp only [at8, od, pr, hd8, ln8]; omega)
  · rw [select_zero]
    congr 1
    exact Fin.ext (by simp only [at8, ev, pr, hd8, ln8]; omega)

/-- The rotation of two heads beside each other. -/
theorem turn2 (f : Fin 128 → EReal) (c s : Fin 128 → EReal) (C S : Fin 32 → EReal) (hc : ∀ h l, c (at2 h l) = C (pr l))
    (hs : ∀ h l, s (at2 h l) = S (pr l) * sign l) (j : Fin 128) :
    f j * c j + Scalar.select (IntOp.cmpi .eq (IntOp.andi (BitVec.ofNat 32 j.val) 1#32) 0#32)
        (f ⟨(j.val + 128 - 127) % 128, Nat.mod_lt _ (by decide)⟩) (f ⟨(j.val + 128 - 1) % 128, Nat.mod_lt _ (by decide)⟩) * s j
      = rope (fun l => f (at2 (hd2 j) l)) C S (ln2 j) := by
  rw [← pair_turn, parity2]
  have ec : c j = C (pr (ln2 j)) := by rw [← hc (hd2 j), split2]
  have es : s j = S (pr (ln2 j)) * sign (ln2 j) := by rw [← hs (hd2 j), split2]
  rw [ec, es, split2]
  have hp : (ln2 j).val % 2 = j.val % 2 := by simp only [ln2]; omega
  rw [hp]
  congr 2
  split_ifs with h
  · rw [select_one]
    congr 1
    exact Fin.ext (by simp only [at2, od, pr, hd2, ln2]; omega)
  · rw [select_zero]
    congr 1
    exact Fin.ext (by simp only [at2, ev, pr, hd2, ln2]; omega)

theorem plain_turn8 (y : Vec Ideal S256x512 .f32) (c s : Vec Ideal S256x128 .f32) (C S : Fin 32 → EReal) (r : Fin 256)
    (hc : ∀ h l, c (ix2 r (at2 h l)) = C (pr l)) (hs : ∀ h l, s (ix2 r (at2 h l)) = S (pr l) * sign l) (j : Fin 512) :
    k0_pay11 (F := Ideal) y (k0_pay8 c) (k0_pay9 s) k0_pay10 (ix2 r j)
      = rope (fun l => y (ix2 r (at8 (hd8 j) l))) C S (ln8 j) := by
  pointwise [k0_pay11, k0_pay8, k0_pay9, k0_pay10, k0_pay5, k0_pay6]
  exact turn8 (fun j => y (ix2 r j)) (fun j => c (ix2 r j)) (fun j => s (ix2 r j)) C S hc hs j

theorem cast_turn8 (t : Vec Ideal S256x1024 .bf16) (c s : Vec Ideal S256x128 .f32) (w : Vec Ideal S1024x512 .bf16)
    (C S : Fin 32 → EReal) (r : Fin 256)
    (hc : ∀ h l, c (ix2 r (at2 h l)) = C (pr l)) (hs : ∀ h l, s (ix2 r (at2 h l)) = S (pr l) * sign l) (j : Fin 512) :
    k0_pay12 (F := Ideal) t c s w (ix2 r j)
      = rope (fun l => ∑ k, t (ix2 r k) * w (ix2 k (at8 (hd8 j) l))) C S (ln8 j) := by
  pointwise [k0_pay12]
  exact turn8 (fun j => ∑ k, t (ix2 r k) * w (ix2 k j)) (fun j => c (ix2 r j)) (fun j => s (ix2 r j)) C S hc hs j

theorem norm_turn8 (c s : Vec Ideal S256x128 .f32) (y : Vec Ideal S256x512 .f32) (b : Vec Ideal S512x512 .bf16)
    (g : Vec Ideal S1x512 .f32) (C S : Fin 32 → EReal) (G : Fin 64 → EReal) (r : Fin 256)
    (hc : ∀ h l, c (ix2 r (at2 h l)) = C (pr l)) (hs : ∀ h l, s (ix2 r (at2 h l)) = S (pr l) * sign l)
    (hy : ∀ j, ∃ a : ℝ, y (ix2 r j) = (a : EReal))
    (hb : ∀ x j : Fin 512, b (ix2 x j) = if x.val / 64 = j.val / 64 then ((1 / 64 : ℝ) : EReal) else 0)
    (hg : ∀ h l, g (ix2 0 (at8 h l)) = G l) (j : Fin 512) :
    k0_pay15 (F := Ideal) c s y b g (ix2 r j)
      = rope (norm (fun l => y (ix2 r (at8 (hd8 j) l))) G) C S (ln8 j) := by
  pointwise [k0_pay15]
  refine (turn8 (fun j => y (ix2 r j) * Ideal.rsqrt ((∑ x, y (ix2 r x) * y (ix2 r x) * b (ix2 x j))
      + (∑ x, (y (ix2 r x) * y (ix2 r x) - y (ix2 r x) * y (ix2 r x)) * b (ix2 x j)) + Ideal.ofBits FTy.f32 897988541#32)
      * g (ix2 0 j)) (fun j => c (ix2 r j)) (fun j => s (ix2 r j)) C S hc hs j).trans ?_
  congr 1
  funext l
  rw [mean_square (H := 8) (fun x => y (ix2 r x)) (fun x => b (ix2 x (at8 (hd8 j) l))) (hd8 j) hy (fun x => by
    rw [hb]
    have e : (at8 (hd8 j) l).val / 64 = (hd8 j).val := congrArg Fin.val (hd8_at (hd8 j) l)
    rw [e]), hg]
  rfl

theorem norm_turn2 (c s : Vec Ideal S256x128 .f32) (y : Vec Ideal S256x128 .f32) (b : Vec Ideal S128x128 .bf16)
    (g : Vec Ideal S1x128 .f32) (C S : Fin 32 → EReal) (G : Fin 64 → EReal) (r : Fin 256)
    (hc : ∀ h l, c (ix2 r (at2 h l)) = C (pr l)) (hs : ∀ h l, s (ix2 r (at2 h l)) = S (pr l) * sign l)
    (hy : ∀ j, ∃ a : ℝ, y (ix2 r j) = (a : EReal))
    (hb : ∀ x j : Fin 128, b (ix2 x j) = if x.val / 64 = j.val / 64 then ((1 / 64 : ℝ) : EReal) else 0)
    (hg : ∀ h l, g (ix2 0 (at2 h l)) = G l) (j : Fin 128) :
    k0_pay19 (F := Ideal) c s y b g (ix2 r j)
      = rope (norm (fun l => y (ix2 r (at2 (hd2 j) l))) G) C S (ln2 j) := by
  pointwise [k0_pay19]
  refine (turn2 (fun j => y (ix2 r j) * Ideal.rsqrt ((∑ x, y (ix2 r x) * y (ix2 r x) * b (ix2 x j))
      + (∑ x, (y (ix2 r x) * y (ix2 r x) - y (ix2 r x) * y (ix2 r x)) * b (ix2 x j)) + Ideal.ofBits FTy.f32 897988541#32)
      * g (ix2 0 j)) (fun j => c (ix2 r j)) (fun j => s (ix2 r j)) C S hc hs j).trans ?_
  congr 1
  funext l
  rw [mean_square (H := 2) (fun x => y (ix2 r x)) (fun x => b (ix2 x (at2 (hd2 j) l))) (hd2 j) hy (fun x => by
    rw [hb]
    have e : (at2 (hd2 j) l).val / 64 = (hd2 j).val := congrArg Fin.val (hd2_at (hd2 j) l)
    rw [e]), hg]
  rfl

section
variable (x0 : Vec Ideal S256x1024 .f32) (x1 : Vec Ideal S1x1x6144 .f32) (x2 : Vec Ideal S1024x5888 .bf16)
  (x3 : Vec Ideal S1x512 .f32) (x4 : Vec Ideal S1x128 .f32) (x5 : Vec Ideal S512x512 .bf16) (x6 x7 : Vec Ideal S256x128 .f32)

/-- One number of the block's projection. -/
def projAt (r : Fin 256) (j : Fin 5888) : EReal :=
  proj (fun k => x0 (ix2 r k)) (fun k => x1 (ix3 0 0 k)) (fun k j => x2 (ix2 k j)) j

theorem idx512 (x : S256x512.Idx) : ∃ (r : Fin 256) (j : Fin 512), x = ix2 r j :=
  ⟨x 0, x 1, funext fun a => match a with | ⟨0, _⟩ => rfl | ⟨1, _⟩ => rfl⟩

theorem idx128 (x : S256x128.Idx) : ∃ (r : Fin 256) (j : Fin 128), x = ix2 r j :=
  ⟨x 0, x 1, funext fun a => match a with | ⟨0, _⟩ => rfl | ⟨1, _⟩ => rfl⟩

theorem idx1024 (x : S256x1024.Idx) : ∃ (r : Fin 256) (j : Fin 1024), x = ix2 r j :=
  ⟨x 0, x 1, funext fun a => match a with | ⟨0, _⟩ => rfl | ⟨1, _⟩ => rfl⟩

theorem token_ld (r : Fin 256) (k : Fin 1024) : k0_pay4 (F := Ideal) (View.ld x1 r0_0) (View.ld x0 r0_1) (ix2 r k)
    = token (fun k => x0 (ix2 r k)) (fun k => x1 (ix3 0 0 k)) k := by
  rw [token_tile]
  congr 1
  · funext k; pointwise []
  · funext k; pointwise []

theorem values_tile (y : S256x512.Idx) :
    out0_10 x0 x1 x2 x3 x4 x5 x6 x7 y = projAt x0 x1 x2 (y 0) (col 1024 (n := 512) (by decide) (y 1)) := by
  unfold_out out0_10
  canon_tiles x h
  obtain ⟨r, j, rfl⟩ := idx512 x
  have e0 : (y 0 : Fin 256) = r := Fin.ext h0
  have e1 : (y 1 : Fin 512) = j := Fin.ext h1
  rw [e0, e1, projAt, proj]
  pointwise [k0_pay13]
  refine Finset.sum_congr rfl fun k _ => ?_
  rw [token_ld]
  congr 1

theorem group_values_tile (y : S256x128.Idx) :
    out0_13 x0 x1 x2 x3 x4 x5 x6 x7 y = projAt x0 x1 x2 (y 0) (col 2176 (n := 128) (by decide) (y 1)) := by
  unfold_out out0_13
  canon_tiles x h
  obtain ⟨r, j, rfl⟩ := idx128 x
  have e0 : (y 0 : Fin 256) = r := Fin.ext h0
  have e1 : (y 1 : Fin 128) = j := Fin.ext h1
  rw [e0, e1, projAt, proj]
  pointwise [k0_pay20]
  refine Finset.sum_congr rfl fun k _ => ?_
  rw [token_ld]
  congr 1

theorem fourier_input_tile (y : S256x512.Idx) :
    out0_14 x0 x1 x2 x3 x4 x5 x6 x7 y = projAt x0 x1 x2 (y 0) (col 2304 (n := 512) (by decide) (y 1)) := by
  unfold_out out0_14
  canon_tiles x h
  obtain ⟨r, j, rfl⟩ := idx512 x
  have e0 : (y 0 : Fin 256) = r := Fin.ext h0
  have e1 : (y 1 : Fin 512) = j := Fin.ext h1
  rw [e0, e1, projAt, proj]
  pointwise [k0_pay21]
  refine Finset.sum_congr rfl fun k _ => ?_
  rw [token_ld]
  congr 1

theorem gates_tile (y : S256x3072.Idx) :
    out0_15 x0 x1 x2 x3 x4 x5 x6 x7 y = Ideal.logistic (projAt x0 x1 x2 (y 0) (col 2816 (n := 3072) (by decide) (y 1))) := by
  unfold_out out0_15
  canon_tiles x h
  all_goals
    obtain ⟨r, j, rfl⟩ := idx1024 x
    have e0 : (y 0 : Fin 256) = r := Fin.ext h0
    rw [e0, projAt, proj]
  case piece0 =>
    have e1 : (y 1 : Fin 3072) = (⟨2048 + j.val, by omega⟩ : Fin 3072) := Fin.ext h1
    rw [e1]
    pointwise [k0_pay3]
    congr 1
    refine Finset.sum_congr rfl fun k _ => ?_
    rw [token_ld]
    congr 1
    exact congrArg (fun i => x2 (ix2 k i)) (Fin.ext (by simp only [col]; omega))
  case piece1 =>
    have e1 : (y 1 : Fin 3072) = (⟨1024 + j.val, by omega⟩ : Fin 3072) := Fin.ext h1
    rw [e1]
    pointwise [k0_pay2]
    congr 1
    refine Finset.sum_congr rfl fun k _ => ?_
    rw [token_ld]
    congr 1
    exact congrArg (fun i => x2 (ix2 k i)) (Fin.ext (by simp only [col]; omega))
  case piece2 =>
    have e1 : (y 1 : Fin 3072) = (⟨j.val, by omega⟩ : Fin 3072) := Fin.ext h1
    rw [e1]
    pointwise [k0_pay1]
    congr 1
    refine Finset.sum_congr rfl fun k _ => ?_
    rw [token_ld]
    congr 1

variable (C S : Fin 256 → Fin 32 → EReal)

theorem queries_tile (hc : ∀ r h l, x6 (ix2 r (at2 h l)) = C r (pr l)) (hs : ∀ r h l, x7 (ix2 r (at2 h l)) = S r (pr l) * sign l)
    (y : S256x512.Idx) : out0_8 x0 x1 x2 x3 x4 x5 x6 x7 y
      = rope (fun l => projAt x0 x1 x2 (y 0) (col 0 (n := 512) (by decide) (at8 (hd8 (y 1)) l))) (C (y 0)) (S (y 0)) (ln8 (y 1)) := by
  unfold_out out0_8
  canon_tiles x h
  obtain ⟨r, j, rfl⟩ := idx512 x
  have e0 : (y 0 : Fin 256) = r := Fin.ext h0
  have e1 : (y 1 : Fin 512) = j := Fin.ext h1
  rw [e0, e1, plain_turn8 _ _ _ (C r) (S r) r (fun h l => ?_) (fun h l => ?_) j]
  · congr 1
    funext l
    rw [projAt, proj]
    pointwise [k0_pay7]
    refine Finset.sum_congr rfl fun k _ => ?_
    rw [token_ld]
    congr 2
    exact congrArg _ (Fin.ext (Nat.zero_add _).symm)
  · rw [← hc r h l]; pointwise []
  · rw [← hs r h l]; pointwise []

theorem keys_tile (hc : ∀ r h l, x6 (ix2 r (at2 h l)) = C r (pr l)) (hs : ∀ r h l, x7 (ix2 r (at2 h l)) = S r (pr l) * sign l)
    (y : S256x512.Idx) : out0_9 x0 x1 x2 x3 x4 x5 x6 x7 y
      = rope (fun l => projAt x0 x1 x2 (y 0) (col 512 (n := 512) (by decide) (at8 (hd8 (y 1)) l))) (C (y 0)) (S (y 0)) (ln8 (y 1)) := by
  unfold_out out0_9
  canon_tiles x h
  obtain ⟨r, j, rfl⟩ := idx512 x
  have e0 : (y 0 : Fin 256) = r := Fin.ext h0
  have e1 : (y 1 : Fin 512) = j := Fin.ext h1
  rw [e0, e1, cast_turn8 _ _ _ _ (C r) (S r) r (fun h l => ?_) (fun h l => ?_) j]
  · congr 1
    funext l
    rw [projAt, proj]
    refine Finset.sum_congr rfl fun k _ => ?_
    rw [token_ld]
    congr 1
    pointwise [col]
  · rw [← hc r h l]; pointwise [k0_pay5]
  · rw [← hs r h l]; pointwise [k0_pay6]

theorem group_projection (r : Fin 256) (j : Fin 512) :
    k0_pay14 (F := Ideal) (k0_pay4 (View.ld x1 r0_0) (View.ld x0 r0_1)) (View.ld x2 r0_7) (ix2 r j)
      = projAt x0 x1 x2 r (col 1536 (n := 512) (by decide) j) := by
  rw [projAt, proj]
  pointwise [k0_pay14]
  refine Finset.sum_congr rfl fun k _ => ?_
  rw [token_ld]
  congr 1

theorem group_key_projection (r : Fin 256) (j : Fin 128) :
    k0_pay16 (F := Ideal) (k0_pay4 (View.ld x1 r0_0) (View.ld x0 r0_1)) (View.ld x2 r0_10) (ix2 r j)
      = projAt x0 x1 x2 r (col 2048 (n := 128) (by decide) j) := by
  rw [projAt, proj]
  pointwise [k0_pay16]
  refine Finset.sum_congr rfl fun k _ => ?_
  rw [token_ld]
  congr 1

variable (G : Fin 64 → EReal)

theorem group_queries_tile (hc : ∀ r h l, x6 (ix2 r (at2 h l)) = C r (pr l)) (hs : ∀ r h l, x7 (ix2 r (at2 h l)) = S r (pr l) * sign l)
    (hp : ∀ r (j : Fin 5888), 1536 ≤ j.val → j.val < 2176 → ∃ a : ℝ, projAt x0 x1 x2 r j = (a : EReal))
    (hb : ∀ x j : Fin 512, x5 (ix2 x j) = if x.val / 64 = j.val / 64 then ((1 / 64 : ℝ) : EReal) else 0)
    (hg : ∀ h l, x3 (ix2 0 (at8 h l)) = G l)
    (y : S256x512.Idx) : out0_11 x0 x1 x2 x3 x4 x5 x6 x7 y
      = rope (norm (fun l => projAt x0 x1 x2 (y 0) (col 1536 (n := 512) (by decide) (at8 (hd8 (y 1)) l))) G)
          (C (y 0)) (S (y 0)) (ln8 (y 1)) := by
  unfold_out out0_11
  canon_tiles x h
  obtain ⟨r, j, rfl⟩ := idx512 x
  have e0 : (y 0 : Fin 256) = r := Fin.ext h0
  have e1 : (y 1 : Fin 512) = j := Fin.ext h1
  rw [e0, e1, norm_turn8 _ _ _ _ _ (C r) (S r) G r (fun h l => ?_) (fun h l => ?_) (fun j => ?_) (fun x j => ?_) (fun h l => ?_) j]
  · simp only [group_projection]
  · rw [← hc r h l]; pointwise [k0_pay5]
  · rw [← hs r h l]; pointwise [k0_pay6]
  · rw [group_projection]
    exact hp r _ (by simp only [col]; omega) (by simp only [col]; omega)
  · rw [← hb]; pointwise []
  · rw [← hg h l]; pointwise []

theorem group_keys_tile (hc : ∀ r h l, x6 (ix2 r (at2 h l)) = C r (pr l)) (hs : ∀ r h l, x7 (ix2 r (at2 h l)) = S r (pr l) * sign l)
    (hp : ∀ r (j : Fin 5888), 1536 ≤ j.val → j.val < 2176 → ∃ a : ℝ, projAt x0 x1 x2 r j = (a : EReal))
    (hb : ∀ x j : Fin 512, x5 (ix2 x j) = if x.val / 64 = j.val / 64 then ((1 / 64 : ℝ) : EReal) else 0)
    (hg : ∀ h l, x4 (ix2 0 (at2 h l)) = G l)
    (y : S256x128.Idx) : out0_12 x0 x1 x2 x3 x4 x5 x6 x7 y
      = rope (norm (fun l => projAt x0 x1 x2 (y 0) (col 2048 (n := 128) (by decide) (at2 (hd2 (y 1)) l))) G)
          (C (y 0)) (S (y 0)) (ln2 (y 1)) := by
  unfold_out out0_12
  canon_tiles x h
  obtain ⟨r, j, rfl⟩ := idx128 x
  have e0 : (y 0 : Fin 256) = r := Fin.ext h0
  have e1 : (y 1 : Fin 128) = j := Fin.ext h1
  rw [e0, e1, norm_turn2 _ _ _ _ _ (C r) (S r) G r (fun h l => ?_) (fun h l => ?_) (fun j => ?_) (fun x j => ?_) (fun h l => ?_) j]
  · simp only [group_key_projection]
  · rw [← hc r h l]; pointwise [k0_pay5]
  · rw [← hs r h l]; pointwise [k0_pay6]
  · rw [group_key_projection]
    exact hp r _ (by simp only [col]; omega) (by simp only [col]; omega)
  · refine Eq.trans ?_ (hb ⟨x.val, by omega⟩ ⟨j.val, by omega⟩)
    pointwise [k0_pay17]
  · rw [← hg h l]; pointwise [k0_pay18]

end
end Cert.Kernel2Ideal.Block
end
-- ==== Proof.ProjEntries.lean ====
module
public import proofs.«01_k».proof.Proof.ProjBlock
@[expose] public section
set_option maxRecDepth 16384

/-! The arrays that the host code prepares for the projection, entry by entry. -/

noncomputable section
namespace Cert.Kernel2Ideal.Arrays
open Cert.Kernel2Ideal Cert.Kernel2Ideal.Gen Cert.Kernel2Ideal.Block Idealize.ShloMosaic Idealize.ShloMosaic.TcCoe Idealize.SL.Sem Cert.Proj

variable (m : (ℓ : Loc nD τ sig) → Buf (Elt Ideal) ℓ)

/-- The host code's test for an even lane. -/
theorem even_test : ∀ l : Fin 64, IntOp.cmpi CmpIPredicate.eq (Scalar.select (IntOp.andi (IntOp.cmpi CmpIPredicate.ne
      (IntOp.cmpi CmpIPredicate.slt (IntOp.remsi ArithUnit.host (BitVec.ofNat 32 l.val) (Scalar.select (IntOp.cmpi CmpIPredicate.eq 2#32 0#32) 1#32 2#32)) 0#32)
      (IntOp.cmpi CmpIPredicate.slt (Scalar.select (IntOp.cmpi CmpIPredicate.eq 2#32 0#32) 1#32 2#32) 0#32))
      (IntOp.cmpi CmpIPredicate.ne (IntOp.remsi ArithUnit.host (BitVec.ofNat 32 l.val) (Scalar.select (IntOp.cmpi CmpIPredicate.eq 2#32 0#32) 1#32 2#32)) 0#32))
      (IntOp.addi (IntOp.remsi ArithUnit.host (BitVec.ofNat 32 l.val) (Scalar.select (IntOp.cmpi CmpIPredicate.eq 2#32 0#32) 1#32 2#32))
        (Scalar.select (IntOp.cmpi CmpIPredicate.eq 2#32 0#32) 1#32 2#32))
      (IntOp.remsi ArithUnit.host (BitVec.ofNat 32 l.val) (Scalar.select (IntOp.cmpi CmpIPredicate.eq 2#32 0#32) 1#32 2#32))) 0#32
    = if l.val % 2 = 0 then 1#1 else 0#1 := by decide +kernel

/-- The host code's test for the blocks of the diagonal. -/
theorem block_test : ∀ a b : Fin 8, IntOp.cmpi CmpIPredicate.eq (IntOp.addi (BitVec.ofNat 32 a.val) 0#32) (BitVec.ofNat 32 b.val)
    = if a.val = b.val then 1#1 else 0#1 := by decide +kernel

theorem mod_entry (c : Dev nD) (b : Fin 16) (k : Fin 6144) :
    V m c main_v28 (ix3 b 0 k) = m ((c : Thread nD τ).loc main_arg1) (ix2 b k) := by
  unfold V
  simp only [hostOps0, hostOps0_1, hostOps0_2, hostOps0_3, hostOps0_4, hostOps0_5, hostOps0_6, List.flatten_cons, List.flatten_nil,
    List.append_nil, List.cons_append, List.nil_append]
  entry_read
  pointwise []

theorem weight_entry (c : Dev nD) (k : Fin 1024) (j : Fin 5888) :
    V m c main_v29 (ix2 k j) = m ((c : Thread nD τ).loc main_arg2) (ix2 k j) := by
  unfold V
  simp only [hostOps0, hostOps0_1, hostOps0_2, hostOps0_3, hostOps0_4, hostOps0_5, hostOps0_6, List.flatten_cons, List.flatten_nil,
    List.append_nil, List.cons_append, List.nil_append]
  entry_read
  pointwise []

theorem query_gain_entry (c : Dev nD) (h : Fin 8) (l : Fin 64) :
    V m c main_v33 (ix2 0 (at8 h l)) = m ((c : Thread nD τ).loc main_arg3) (ix1 l) := by
  unfold V
  simp only [hostOps0, hostOps0_1, hostOps0_2, hostOps0_3, hostOps0_4, hostOps0_5, hostOps0_6, List.flatten_cons, List.flatten_nil,
    List.append_nil, List.cons_append, List.nil_append]
  entry_read
  pointwise [at8]
  have e : (⟨(h.val * 64 + l.val) % 64, Nat.mod_lt _ (by decide)⟩ : Fin 64) = l := Fin.ext (by dsimp only; omega)
  exact congrArg (fun i => m ((c : Thread nD τ).loc main_arg3) (ix1 i)) e

theorem key_gain_entry (c : Dev nD) (h : Fin 2) (l : Fin 64) :
    V m c main_v37 (ix2 0 (at2 h l)) = m ((c : Thread nD τ).loc main_arg4) (ix1 l) := by
  unfold V
  simp only [hostOps0, hostOps0_1, hostOps0_2, hostOps0_3, hostOps0_4, hostOps0_5, hostOps0_6, List.flatten_cons, List.flatten_nil,
    List.append_nil, List.cons_append, List.nil_append]
  entry_read
  pointwise [at2]
  have e : (⟨(h.val * 64 + l.val) % 64, Nat.mod_lt _ (by decide)⟩ : Fin 64) = l := Fin.ext (by dsimp only; omega)
  exact congrArg (fun i => m ((c : Thread nD τ).loc main_arg4) (ix1 i)) e

theorem cos_entry (c : Dev nD) (t : Fin 4096) (h : Fin 2) (l : Fin 64) :
    V m c main_v12 (ix2 t (at2 h l)) = m ((c : Thread nD τ).loc main_arg5) (ix2 t (pr l)) := by
  unfold V
  simp only [hostOps0, hostOps0_1, hostOps0_2, hostOps0_3, hostOps0_4, hostOps0_5, hostOps0_6, List.flatten_cons, List.flatten_nil,
    List.append_nil, List.cons_append, List.nil_append]
  entry_read
  pointwise [at2, pr]

theorem sin_entry (c : Dev nD) (t : Fin 4096) (h : Fin 2) (l : Fin 64) :
    V m c main_v18 (ix2 t (at2 h l)) = (fun (a b : EReal) => a * b) (m ((c : Thread nD τ).loc main_arg6) (ix2 t (pr l))) (sign l) := by
  unfold V
  simp only [hostOps0, hostOps0_1, hostOps0_2, hostOps0_3, hostOps0_4, hostOps0_5, hostOps0_6, List.flatten_cons, List.flatten_nil,
    List.append_nil, List.cons_append, List.nil_append]
  entry_read
  simp only [StableHlo.TRef.ofBuf_toBuf, StableHlo.TRef.toBuf, StableHlo.TRef.ofBuf, cast_eq]
  pointwise [at2, pr]
  rw [even_test l, minus_one, sign]
  by_cases h : l.val % 2 = 0
  · rw [if_pos h, if_pos h]; rfl
  · rw [if_neg h, if_neg h]; rfl

theorem block_entry (c : Dev nD) (x j : Fin 512) :
    V m c main_v27 (ix2 x j) = if x.val / 64 = j.val / 64 then ((1 / 64 : ℝ) : EReal) else 0 := by
  unfold V
  simp only [hostOps0, hostOps0_1, hostOps0_2, hostOps0_3, hostOps0_4, hostOps0_5, hostOps0_6, List.flatten_cons, List.flatten_nil,
    List.append_nil, List.cons_append, List.nil_append]
  entry_read
  simp only [StableHlo.TRef.ofBuf_toBuf, StableHlo.TRef.toBuf, StableHlo.TRef.ofBuf, cast_eq]
  pointwise []
  rw [block_test ⟨x.val / 64, by omega⟩ ⟨j.val / 64, by omega⟩, share]
  dsimp only
  split_ifs with h
  · simp [FloatOps.uitofp]
  · simp [FloatOps.uitofp]

end Cert.Kernel2Ideal.Arrays
end
-- ==== Proof.ProjArrays.lean ====
module
public import proofs.«01_k».proof.Proof.ProjEntries
@[expose] public section
set_option maxRecDepth 16384

/-! The blocks of the projection's windows, as parts of the arrays the call is given. -/

noncomputable section
namespace Cert.Kernel2Ideal.Arrays
open Cert.Kernel2Ideal Cert.Kernel2Ideal.Gen Cert.Kernel2Ideal.Block Idealize.ShloMosaic Idealize.ShloMosaic.TcCoe Idealize.SL.Sem Cert.Proj

variable (m : (ℓ : Loc nD τ sig) → Buf (Elt Ideal) ℓ)

theorem at0 (t : Fin cfg0.N) : win0_0.index t = ![t.val, 0] := (by decide +kernel : ∀ t : Fin grid0.N, win0_0.index t = ![t.val, 0]) t
theorem at1 (t : Fin cfg0.N) : win0_1.index t = ![t.val / 16, 0, 0] := (by decide +kernel : ∀ t : Fin grid0.N, win0_1.index t = ![t.val / 16, 0, 0]) t
theorem at2 (t : Fin cfg0.N) : win0_2.index t = ![0, 0] := (by decide +kernel : ∀ t : Fin grid0.N, win0_2.index t = ![0, 0]) t
theorem at3 (t : Fin cfg0.N) : win0_3.index t = ![0, 0] := (by decide +kernel : ∀ t : Fin grid0.N, win0_3.index t = ![0, 0]) t
theorem at4 (t : Fin cfg0.N) : win0_4.index t = ![0, 0] := (by decide +kernel : ∀ t : Fin grid0.N, win0_4.index t = ![0, 0]) t
theorem at5 (t : Fin cfg0.N) : win0_5.index t = ![0, 0] := (by decide +kernel : ∀ t : Fin grid0.N, win0_5.index t = ![0, 0]) t
theorem at6 (t : Fin cfg0.N) : win0_6.index t = ![t.val % 16, 0] := (by decide +kernel : ∀ t : Fin grid0.N, win0_6.index t = ![t.val % 16, 0]) t
theorem at7 (t : Fin cfg0.N) : win0_7.index t = ![t.val % 16, 0] := (by decide +kernel : ∀ t : Fin grid0.N, win0_7.index t = ![t.val % 16, 0]) t
theorem at8 (t : Fin cfg0.N) : win0_8.index t = ![t.val, 0] := (by decide +kernel : ∀ t : Fin grid0.N, win0_8.index t = ![t.val, 0]) t
theorem at9 (t : Fin cfg0.N) : win0_9.index t = ![t.val, 0] := (by decide +kernel : ∀ t : Fin grid0.N, win0_9.index t = ![t.val, 0]) t
theorem at10 (t : Fin cfg0.N) : win0_10.index t = ![t.val, 0] := (by decide +kernel : ∀ t : Fin grid0.N, win0_10.index t = ![t.val, 0]) t
theorem at11 (t : Fin cfg0.N) : win0_11.index t = ![t.val, 0] := (by decide +kernel : ∀ t : Fin grid0.N, win0_11.index t = ![t.val, 0]) t
theorem at12 (t : Fin cfg0.N) : win0_12.index t = ![t.val, 0] := (by decide +kernel : ∀ t : Fin grid0.N, win0_12.index t = ![t.val, 0]) t
theorem at13 (t : Fin cfg0.N) : win0_13.index t = ![t.val, 0] := (by decide +kernel : ∀ t : Fin grid0.N, win0_13.index t = ![t.val, 0]) t
theorem at14 (t : Fin cfg0.N) : win0_14.index t = ![t.val, 0] := (by decide +kernel : ∀ t : Fin grid0.N, win0_14.index t = ![t.val, 0]) t
theorem at15 (t : Fin cfg0.N) : win0_15.index t = ![t.val, 0] := (by decide +kernel : ∀ t : Fin grid0.N, win0_15.index t = ![t.val, 0]) t

theorem points (t : Fin cfg0.N) : t.val < 128 := t.isLt

/-- Row `r` of a grid point's block of tokens. -/
def row (t : Fin cfg0.N) (r : Fin 256) : Fin 32768 := ⟨t.val * 256 + r.val, by have := points t; omega⟩

/-- A token's sequence and its position in it. -/
def seqOf (R : Fin 32768) : Fin 16 := ⟨R.val / 4096, by omega⟩
def posOf (R : Fin 32768) : Fin 4096 := ⟨R.val % 4096, by omega⟩

theorem x_block (c : Dev nD) (t : Fin cfg0.N) (r : Fin 256) (k : Fin 1024) :
    iblk m c 0 t (ix2 r k) = m ((c : Thread nD τ).loc main_arg0) (ix2 (row t r) k) := by
  rw [← V_main_arg0 m c]
  dsimp only [iblk]
  generalize V m c (Pipeline.arrRef spec0 0) = A
  blk_ext [at0 t, row]

theorem mod_block (c : Dev nD) (t : Fin cfg0.N) (r : Fin 256) (k : Fin 6144) :
    iblk m c 1 t (ix3 0 0 k) = m ((c : Thread nD τ).loc main_arg1) (ix2 (seqOf (row t r)) k) := by
  rw [← mod_entry m c]
  dsimp only [iblk]
  generalize V m c (Pipeline.arrRef spec0 1) = A
  have e : seqOf (row t r) = ⟨t.val / 16, by have := points t; omega⟩ := Fin.ext (by simp only [seqOf, row]; omega)
  rw [e]
  blk_ext [at1 t]

theorem weight_block (c : Dev nD) (t : Fin cfg0.N) (k : Fin 1024) (j : Fin 5888) :
    iblk m c 2 t (ix2 k j) = m ((c : Thread nD τ).loc main_arg2) (ix2 k j) := by
  rw [← weight_entry m c]
  dsimp only [iblk]
  generalize V m c (Pipeline.arrRef spec0 2) = A
  blk_ext [at2 t]

theorem query_gain_block (c : Dev nD) (t : Fin cfg0.N) (h : Fin 8) (l : Fin 64) :
    iblk m c 3 t (ix2 0 (Proj.at8 h l)) = m ((c : Thread nD τ).loc main_arg3) (ix1 l) := by
  rw [← query_gain_entry m c h l]
  dsimp only [iblk]
  generalize V m c (Pipeline.arrRef spec0 3) = A
  blk_ext [at3 t]

theorem key_gain_block (c : Dev nD) (t : Fin cfg0.N) (h : Fin 2) (l : Fin 64) :
    iblk m c 4 t (ix2 0 (Proj.at2 h l)) = m ((c : Thread nD τ).loc main_arg4) (ix1 l) := by
  rw [← key_gain_entry m c h l]
  dsimp only [iblk]
  generalize V m c (Pipeline.arrRef spec0 4) = A
  blk_ext [at4 t]

theorem diagonal_block (c : Dev nD) (t : Fin cfg0.N) (x j : Fin 512) :
    iblk m c 5 t (ix2 x j) = if x.val / 64 = j.val / 64 then ((1 / 64 : ℝ) : EReal) else 0 := by
  rw [← block_entry m c x j]
  dsimp only [iblk]
  generalize V m c (Pipeline.arrRef spec0 5) = A
  blk_ext [at5 t]

theorem cos_block (c : Dev nD) (t : Fin cfg0.N) (r : Fin 256) (h : Fin 2) (l : Fin 64) :
    iblk m c 6 t (ix2 r (Proj.at2 h l)) = m ((c : Thread nD τ).loc main_arg5) (ix2 (posOf (row t r)) (pr l)) := by
  rw [← cos_entry m c _ h l]
  dsimp only [iblk]
  generalize V m c (Pipeline.arrRef spec0 6) = A
  have e : posOf (row t r) = ⟨t.val % 16 * 256 + r.val, by omega⟩ := Fin.ext (by simp only [posOf, row]; omega)
  rw [e]
  blk_ext [at6 t]

theorem sin_block (c : Dev nD) (t : Fin cfg0.N) (r : Fin 256) (h : Fin 2) (l : Fin 64) :
    iblk m c 7 t (ix2 r (Proj.at2 h l))
      = (fun (a b : EReal) => a * b) (m ((c : Thread nD τ).loc main_arg6) (ix2 (posOf (row t r)) (pr l))) (sign l) := by
  rw [← sin_entry m c _ h l]
  dsimp only [iblk]
  generalize V m c (Pipeline.arrRef spec0 7) = A
  have e : posOf (row t r) = ⟨t.val % 16 * 256 + r.val, by omega⟩ := Fin.ext (by simp only [posOf, row]; omega)
  rw [e]
  blk_ext [at7 t]

/-- One number of the projection of one token. -/
def P (c : Dev nD) (R : Fin 32768) (j : Fin 5888) : EReal :=
  proj (fun k => m ((c : Thread nD τ).loc main_arg0) (ix2 R k)) (fun k => m ((c : Thread nD τ).loc main_arg1) (ix2 (seqOf R) k))
    (fun k j => m ((c : Thread nD τ).loc main_arg2) (ix2 k j)) j

theorem block_projection (c : Dev nD) (t : Fin cfg0.N) (r : Fin 256) (j : Fin 5888) :
    projAt (iblk m c 0 t) (iblk m c 1 t) (iblk m c 2 t) r j = P m c (row t r) j := by
  rw [projAt, P]
  congr 1
  · funext k; exact x_block m c t r k
  · funext k; exact mod_block m c t r k
  · funext k j; exact weight_block m c t k j

/-- A row of the cosines or of the sines. -/
def cosRow (c : Dev nD) (R : Fin 32768) (p : Fin 32) : EReal := m ((c : Thread nD τ).loc main_arg5) (ix2 (posOf R) p)
def sinRow (c : Dev nD) (R : Fin 32768) (p : Fin 32) : EReal := m ((c : Thread nD τ).loc main_arg6) (ix2 (posOf R) p)
def queryGain (c : Dev nD) (l : Fin 64) : EReal := m ((c : Thread nD τ).loc main_arg3) (ix1 l)
def keyGain (c : Dev nD) (l : Fin 64) : EReal := m ((c : Thread nD τ).loc main_arg4) (ix1 l)

end Cert.Kernel2Ideal.Arrays
end
-- ==== Proof.ProjFinal.lean ====
module
public import proofs.«01_k».proof.Proof.ProjArrays
@[expose] public section
set_option maxRecDepth 16384

/-! The projection's eight arrays after its run. -/

noncomputable section
namespace Cert.Kernel2Ideal.Arrays
open Cert.Kernel2Ideal Cert.Kernel2Ideal.Gen Cert.Kernel2Ideal.Block Idealize.ShloMosaic Idealize.ShloMosaic.TcCoe Idealize.SL.Sem Cert.Proj

variable (m : (ℓ : Loc nD τ sig) → Buf (Elt Ideal) ℓ)

theorem values_point (c : Dev nD) (t : Fin cfg0.N) (y : S256x512.Idx) :
    out0_10 (iblk m c 0 t) (iblk m c 1 t) (iblk m c 2 t) (iblk m c 3 t) (iblk m c 4 t) (iblk m c 5 t) (iblk m c 6 t)
      (iblk m c 7 t) y = P m c (row t (y 0)) (col 1024 (n := 512) (by decide) (y 1)) := by
  refine (values_tile _ _ _ _ _ _ _ _ y).trans ?_
  exact block_projection m c t (y 0) _

theorem values_final (c : Dev nD) : (dats m 0 c).arrAt 10 cfg0.N
    = fun i : S32768x512.Idx => P m c (i 0) (col 1024 (n := 512) (by decide) (i 1)) := by
  refine (dats m 0 c).arrAt_eq_of_covers 10 _ (by decide +kernel) fun t _ y => ?_
  blk_simp
  rw [after0_10]
  refine (values_point m c t y).trans ?_
  have e : (win0_10.blk t).view.emb y = ix2 (row t (y 0)) (y 1) := by
    blk_ext [at10 t, row]
  exact (congrArg (fun i : S32768x512.Idx => P m c (i 0) (col 1024 (n := 512) (by decide) (i 1))) e).symm

theorem group_values_point (c : Dev nD) (t : Fin cfg0.N) (y : S256x128.Idx) :
    out0_13 (iblk m c 0 t) (iblk m c 1 t) (iblk m c 2 t) (iblk m c 3 t) (iblk m c 4 t) (iblk m c 5 t) (iblk m c 6 t)
      (iblk m c 7 t) y = P m c (row t (y 0)) (col 2176 (n := 128) (by decide) (y 1)) := by
  refine (group_values_tile _ _ _ _ _ _ _ _ y).trans ?_
  exact block_projection m c t (y 0) _

theorem group_values_final (c : Dev nD) : (dats m 0 c).arrAt 13 cfg0.N
    = fun i : S32768x128.Idx => P m c (i 0) (col 2176 (n := 128) (by decide) (i 1)) := by
  refine (dats m 0 c).arrAt_eq_of_covers 13 _ (by decide +kernel) fun t _ y => ?_
  blk_simp
  rw [after0_13]
  refine (group_values_point m c t y).trans ?_
  have e : (win0_13.blk t).view.emb y = ix2 (row t (y 0)) (y 1) := by
    blk_ext [at13 t, row]
  exact (congrArg (fun i : S32768x128.Idx => P m c (i 0) (col 2176 (n := 128) (by decide) (i 1))) e).symm

theorem fourier_input_point (c : Dev nD) (t : Fin cfg0.N) (y : S256x512.Idx) :
    out0_14 (iblk m c 0 t) (iblk m c 1 t) (iblk m c 2 t) (iblk m c 3 t) (iblk m c 4 t) (iblk m c 5 t) (iblk m c 6 t)
      (iblk m c 7 t) y = P m c (row t (y 0)) (col 2304 (n := 512) (by decide) (y 1)) := by
  refine (fourier_input_tile _ _ _ _ _ _ _ _ y).trans ?_
  exact block_projection m c t (y 0) _

theorem fourier_input_final (c : Dev nD) : (dats m 0 c).arrAt 14 cfg0.N
    = fun i : S32768x512.Idx => P m c (i 0) (col 2304 (n := 512) (by decide) (i 1)) := by
  refine (dats m 0 c).arrAt_eq_of_covers 14 _ (by decide +kernel) fun t _ y => ?_
  blk_simp
  rw [after0_14]
  refine (fourier_input_point m c t y).trans ?_
  have e : (win0_14.blk t).view.emb y = ix2 (row t (y 0)) (y 1) := by
    blk_ext [at14 t, row]
  exact (congrArg (fun i : S32768x512.Idx => P m c (i 0) (col 2304 (n := 512) (by decide) (i 1))) e).symm

theorem gates_point (c : Dev nD) (t : Fin cfg0.N) (y : S256x3072.Idx) :
    out0_15 (iblk m c 0 t) (iblk m c 1 t) (iblk m c 2 t) (iblk m c 3 t) (iblk m c 4 t) (iblk m c 5 t) (iblk m c 6 t)
      (iblk m c 7 t) y = Ideal.logistic (P m c (row t (y 0)) (col 2816 (n := 3072) (by decide) (y 1))) := by
  refine (gates_tile _ _ _ _ _ _ _ _ y).trans ?_
  exact congrArg Ideal.logistic (block_projection m c t (y 0) _)

theorem gates_final (c : Dev nD) : (dats m 0 c).arrAt 15 cfg0.N
    = fun i : S32768x3072.Idx => Ideal.logistic (P m c (i 0) (col 2816 (n := 3072) (by decide) (i 1))) := by
  refine (dats m 0 c).arrAt_eq_of_covers 15 _ (by decide +kernel) fun t _ y => ?_
  blk_simp
  rw [after0_15]
  refine (gates_point m c t y).trans ?_
  have e : (win0_15.blk t).view.emb y = ix2 (row t (y 0)) (y 1) := by
    blk_ext [at15 t, row]
  exact (congrArg (fun i : S32768x3072.Idx => Ideal.logistic (P m c (i 0) (col 2816 (n := 3072) (by decide) (i 1)))) e).symm

theorem queries_point (c : Dev nD) (t : Fin cfg0.N) (y : S256x512.Idx) :
    out0_8 (iblk m c 0 t) (iblk m c 1 t) (iblk m c 2 t) (iblk m c 3 t) (iblk m c 4 t) (iblk m c 5 t) (iblk m c 6 t)
      (iblk m c 7 t) y = rope (fun l => P m c (row t (y 0)) (col 0 (n := 512) (by decide) (Proj.at8 (hd8 (y 1)) l))) (cosRow m c (row t (y 0))) (sinRow m c (row t (y 0))) (ln8 (y 1)) := by
  refine (queries_tile _ _ _ _ _ _ _ _ (C := fun r => cosRow m c (row t r)) (S := fun r => sinRow m c (row t r)) (fun r h l => cos_block m c t r h l) (fun r h l => sin_block m c t r h l) y).trans ?_
  exact congrArg (fun f => rope f (cosRow m c (row t (y 0))) (sinRow m c (row t (y 0))) (ln8 (y 1))) (funext fun l => block_projection m c t (y 0) _)

theorem queries_final (c : Dev nD) : (dats m 0 c).arrAt 8 cfg0.N
    = fun i : S32768x512.Idx => rope (fun l => P m c (i 0) (col 0 (n := 512) (by decide) (Proj.at8 (hd8 (i 1)) l))) (cosRow m c (i 0)) (sinRow m c (i 0)) (ln8 (i 1)) := by
  refine (dats m 0 c).arrAt_eq_of_covers 8 _ (by decide +kernel) fun t _ y => ?_
  blk_simp
  rw [after0_8]
  refine (queries_point m c t y).trans ?_
  have e : (win0_8.blk t).view.emb y = ix2 (row t (y 0)) (y 1) := by
    blk_ext [at8 t, row]
  exact (congrArg (fun i : S32768x512.Idx => rope (fun l => P m c (i 0) (col 0 (n := 512) (by decide) (Proj.at8 (hd8 (i 1)) l))) (cosRow m c (i 0)) (sinRow m c (i 0)) (ln8 (i 1))) e).symm

theorem keys_point (c : Dev nD) (t : Fin cfg0.N) (y : S256x512.Idx) :
    out0_9 (iblk m c 0 t) (iblk m c 1 t) (iblk m c 2 t) (iblk m c 3 t) (iblk m c 4 t) (iblk m c 5 t) (iblk m c 6 t)
      (iblk m c 7 t) y = rope (fun l => P m c (row t (y 0)) (col 512 (n := 512) (by decide) (Proj.at8 (hd8 (y 1)) l))) (cosRow m c (row t (y 0))) (sinRow m c (row t (y 0))) (ln8 (y 1)) := by
  refine (keys_tile _ _ _ _ _ _ _ _ (C := fun r => cosRow m c (row t r)) (S := fun r => sinRow m c (row t r)) (fun r h l => cos_block m c t r h l) (fun r h l => sin_block m c t r h l) y).trans ?_
  exact congrArg (fun f => rope f (cosRow m c (row t (y 0))) (sinRow m c (row t (y 0))) (ln8 (y 1))) (funext fun l => block_projection m c t (y 0) _)

theorem keys_final (c : Dev nD) : (dats m 0 c).arrAt 9 cfg0.N
    = fun i : S32768x512.Idx => rope (fun l => P m c (i 0) (col 512 (n := 512) (by decide) (Proj.at8 (hd8 (i 1)) l))) (cosRow m c (i 0)) (sinRow m c (i 0)) (ln8 (i 1)) := by
  refine (dats m 0 c).arrAt_eq_of_covers 9 _ (by decide +kernel) fun t _ y => ?_
  blk_simp
  rw [after0_9]
  refine (keys_point m c t y).trans ?_
  have e : (win0_9.blk t).view.emb y = ix2 (row t (y 0)) (y 1) := by
    blk_ext [at9 t, row]
  exact (congrArg (fun i : S32768x512.Idx => rope (fun l => P m c (i 0) (col 512 (n := 512) (by decide) (Proj.at8 (hd8 (i 1)) l))) (cosRow m c (i 0)) (sinRow m c (i 0)) (ln8 (i 1))) e).symm

theorem group_queries_point (c : Dev nD)
    (hp : ∀ R (j : Fin 5888), 1536 ≤ j.val → j.val < 2176 → ∃ a : ℝ, P m c R j = (a : EReal)) (t : Fin cfg0.N) (y : S256x512.Idx) :
    out0_11 (iblk m c 0 t) (iblk m c 1 t) (iblk m c 2 t) (iblk m c 3 t) (iblk m c 4 t) (iblk m c 5 t) (iblk m c 6 t)
      (iblk m c 7 t) y = rope (norm (fun l => P m c (row t (y 0)) (col 1536 (n := 512) (by decide) (Proj.at8 (hd8 (y 1)) l))) (queryGain m c)) (cosRow m c (row t (y 0))) (sinRow m c (row t (y 0))) (ln8 (y 1)) := by
  refine (group_queries_tile _ _ _ _ _ _ _ _ (G := queryGain m c) (C := fun r => cosRow m c (row t r)) (S := fun r => sinRow m c (row t r)) (fun r h l => cos_block m c t r h l) (fun r h l => sin_block m c t r h l) (fun r j h1 h2 => by rw [block_projection]; exact hp _ j h1 h2) (fun x j => diagonal_block m c t x j) (fun h l => query_gain_block m c t h l) y).trans ?_
  exact congrArg (fun f => rope (norm f (queryGain m c)) (cosRow m c (row t (y 0))) (sinRow m c (row t (y 0))) (ln8 (y 1))) (funext fun l => block_projection m c t (y 0) _)

theorem group_queries_final (c : Dev nD)
    (hp : ∀ R (j : Fin 5888), 1536 ≤ j.val → j.val < 2176 → ∃ a : ℝ, P m c R j = (a : EReal)) : (dats m 0 c).arrAt 11 cfg0.N
    = fun i : S32768x512.Idx => rope (norm (fun l => P m c (i 0) (col 1536 (n := 512) (by decide) (Proj.at8 (hd8 (i 1)) l))) (queryGain m c)) (cosRow m c (i 0)) (sinRow m c (i 0)) (ln8 (i 1)) := by
  refine (dats m 0 c).arrAt_eq_of_covers 11 _ (by decide +kernel) fun t _ y => ?_
  blk_simp
  rw [after0_11]
  refine (group_queries_point m c hp t y).trans ?_
  have e : (win0_11.blk t).view.emb y = ix2 (row t (y 0)) (y 1) := by
    blk_ext [at11 t, row]
  exact (congrArg (fun i : S32768x512.Idx => rope (norm (fun l => P m c (i 0) (col 1536 (n := 512) (by decide) (Proj.at8 (hd8 (i 1)) l))) (queryGain m c)) (cosRow m c (i 0)) (sinRow m c (i 0)) (ln8 (i 1))) e).symm

theorem group_keys_point (c : Dev nD)
    (hp : ∀ R (j : Fin 5888), 1536 ≤ j.val → j.val < 2176 → ∃ a : ℝ, P m c R j = (a : EReal)) (t : Fin cfg0.N) (y : S256x128.Idx) :
    out0_12 (iblk m c 0 t) (iblk m c 1 t) (iblk m c 2 t) (iblk m c 3 t) (iblk m c 4 t) (iblk m c 5 t) (iblk m c 6 t)
      (iblk m c 7 t) y = rope (norm (fun l => P m c (row t (y 0)) (col 2048 (n := 128) (by decide) (Proj.at2 (hd2 (y 1)) l))) (keyGain m c)) (cosRow m c (row t (y 0))) (sinRow m c (row t (y 0))) (ln2 (y 1)) := by
  refine (group_keys_tile _ _ _ _ _ _ _ _ (G := keyGain m c) (C := fun r => cosRow m c (row t r)) (S := fun r => sinRow m c (row t r)) (fun r h l => cos_block m c t r h l) (fun r h l => sin_block m c t r h l) (fun r j h1 h2 => by rw [block_projection]; exact hp _ j h1 h2) (fun x j => diagonal_block m c t x j) (fun h l => key_gain_block m c t h l) y).trans ?_
  exact congrArg (fun f => rope (norm f (keyGain m c)) (cosRow m c (row t (y 0))) (sinRow m c (row t (y 0))) (ln2 (y 1))) (funext fun l => block_projection m c t (y 0) _)

theorem group_keys_final (c : Dev nD)
    (hp : ∀ R (j : Fin 5888), 1536 ≤ j.val → j.val < 2176 → ∃ a : ℝ, P m c R j = (a : EReal)) : (dats m 0 c).arrAt 12 cfg0.N
    = fun i : S32768x128.Idx => rope (norm (fun l => P m c (i 0) (col 2048 (n := 128) (by decide) (Proj.at2 (hd2 (i 1)) l))) (keyGain m c)) (cosRow m c (i 0)) (sinRow m c (i 0)) (ln2 (i 1)) := by
  refine (dats m 0 c).arrAt_eq_of_covers 12 _ (by decide +kernel) fun t _ y => ?_
  blk_simp
  rw [after0_12]
  refine (group_keys_point m c hp t y).trans ?_
  have e : (win0_12.blk t).view.emb y = ix2 (row t (y 0)) (y 1) := by
    blk_ext [at12 t, row]
  exact (congrArg (fun i : S32768x128.Idx => rope (norm (fun l => P m c (i 0) (col 2048 (n := 128) (by decide) (Proj.at2 (hd2 (i 1)) l))) (keyGain m c)) (cosRow m c (i 0)) (sinRow m c (i 0)) (ln2 (i 1))) e).symm

end Cert.Kernel2Ideal.Arrays
end
-- ==== Proof.ProjRef.lean ====
module
public import proofs.«01_k».proof.Proof.Gen.Reference2Ideal.Read
public import Idealize.ShloMosaic.Lib.Pipeline.ValueKit
public import proofs.«01_k».proof.Proof.ProjMath
@[expose] public section
set_option maxRecDepth 16384

/-! The reference of the projection, read at one token and one column. -/

noncomputable section
namespace Cert.Reference2Ideal.Ref
open Cert.Reference2Ideal Cert.Reference2Ideal.Read Idealize.ShloMosaic Idealize.ShloMosaic.TcCoe Idealize.SL.Sem Cert.Proj

/-- Arrays of the reference at the ideal values. -/
abbrev Arr (s : Shape) : Type := (⟨s, .f32⟩ : BufTy).Contents (Elt Ideal)

variable (x0 : Arr S32768x1024) (x1 : Arr S16x6144) (x2 : Arr S1024x5888) (x3 x4 : Arr S64) (x5 x6 : Arr S4096x32)

/-- The token at one position of one sequence. -/
def tok (b : Fin 8) (t : Fin 4096) : Fin 32768 := ⟨b.val * 4096 + t.val, by omega⟩
def wide (b : Fin 8) : Fin 16 := ⟨b.val, by omega⟩

theorem centred_at (b : Fin 8) (t : Fin 4096) (k : Fin 1024) :
    val_main_v10 x0 (ix3 b t k) = x0 (ix2 (tok b t) k) - mean (fun k => x0 (ix2 (tok b t) k)) := by
  pointwise [val_main_v10, val_main_v9, val_main_v8, val_main_v7, val_main_v6, val_main_v5, val_main_v0, val_main_cst_0, val_main_cst]
  rfl

theorem spread_at (b : Fin 8) (t : Fin 4096) :
    val_main_v18 x0 (ix3 b t 0) = Ideal.rsqrt (Ideal.div (∑ k, val_main_v10 x0 (ix3 b t k) * val_main_v10 x0 (ix3 b t k))
      (Ideal.ofBits .f32 0x44800000#32) + Ideal.ofBits .f32 0x358637BD#32) := by
  unfold val_main_v18 val_main_v17 val_main_v16 val_main_v15 val_main_v14 val_main_v13 val_main_v12 val_main_v11
  generalize val_main_v10 x0 = y
  pointwise [val_main_cst_1, val_main_cst_2, val_main_cst_3]

theorem token_at (b : Fin 8) (t : Fin 4096) (k : Fin 1024) :
    val_main_v26 x0 x1 (ix3 b t k) = token (fun k => x0 (ix2 (tok b t) k)) (fun k => x1 (ix2 (wide b) k)) k := by
  have e : val_main_v26 x0 x1 (ix3 b t k) = val_main_v10 x0 (ix3 b t k) * val_main_v18 x0 (ix3 b t 0)
      * (1 + x1 (ix2 (wide b) ⟨1024 + k.val, by omega⟩)) + x1 (ix2 (wide b) ⟨k.val, by omega⟩) := by
    unfold val_main_v26 val_main_v25 val_main_v24 val_main_v23 val_main_v22 val_main_v21 val_main_v20 val_main_v19
    generalize val_main_v18 x0 = y
    generalize val_main_v10 x0 = z
    pointwise [val_main_v4, val_main_v3, val_main_v2, val_main_v1, val_main_cst_4]
    rfl
  rw [e, spread_at, token]
  simp only [centred_at]

/-- The first of two lanes, told by the remainder. -/
theorem pick (l : Fin 64) [Decidable (l.val % 2 < 1)] [Decidable (l.val % 2 = 0)] {A : l.val % 2 < 1 → EReal}
    {B : ¬ l.val % 2 < 1 → EReal} {A' B' : EReal} (ha : ∀ h, A h = A') (hb : ∀ h, B h = B') :
    (if h : l.val % 2 < 1 then A h else B h) = if l.val % 2 = 0 then A' else B' := by
  by_cases z : l.val % 2 = 0
  · rw [dif_pos (by omega), if_pos z, ha]
  · rw [dif_neg (by omega), if_neg z, hb]

/-- One number of the reference's projection. -/
def Q (b : Fin 8) (t : Fin 4096) (j : Fin 5888) : EReal :=
  proj (fun k => x0 (ix2 (tok b t) k)) (fun k => x1 (ix2 (wide b) k)) (fun k j => x2 (ix2 k j)) j

theorem projection_at (b : Fin 8) (t : Fin 4096) (j : Fin 5888) : val_main_v27 x0 x1 x2 (ix3 b t j) = Q x0 x1 x2 b t j := by
  have e : val_main_v27 x0 x1 x2 (ix3 b t j) = ∑ k : Fin 1024, val_main_v26 x0 x1 (ix3 b t k) * x2 (ix2 k j) := by
    unfold val_main_v27
    generalize val_main_v26 x0 x1 = y
    pointwise []
  rw [e, Q, proj]
  simp only [token_at]

theorem queries_at (b : Fin 8) (t : Fin 4096) (j : Fin 512) :
    val_main_v28 x0 x1 x2 (ix3 b t j) = Q x0 x1 x2 b t (col 0 (n := 512) (by decide) j) := by
  rw [← projection_at]
  unfold val_main_v28
  generalize val_main_v27 x0 x1 x2 = y
  pointwise [col]

theorem keys_at (b : Fin 8) (t : Fin 4096) (j : Fin 512) :
    val_main_v29 x0 x1 x2 (ix3 b t j) = Q x0 x1 x2 b t (col 512 (n := 512) (by decide) j) := by
  rw [← projection_at]
  unfold val_main_v29
  generalize val_main_v27 x0 x1 x2 = y
  pointwise [col]

theorem values_at (b : Fin 8) (t : Fin 4096) (j : Fin 512) :
    val_main_v30 x0 x1 x2 (ix3 b t j) = Q x0 x1 x2 b t (col 1024 (n := 512) (by decide) j) := by
  rw [← projection_at]
  unfold val_main_v30
  generalize val_main_v27 x0 x1 x2 = y
  pointwise [col]

theorem group_queries_at (b : Fin 8) (t : Fin 4096) (j : Fin 512) :
    val_main_v31 x0 x1 x2 (ix3 b t j) = Q x0 x1 x2 b t (col 1536 (n := 512) (by decide) j) := by
  rw [← projection_at]
  unfold val_main_v31
  generalize val_main_v27 x0 x1 x2 = y
  pointwise [col]

theorem group_keys_at (b : Fin 8) (t : Fin 4096) (j : Fin 128) :
    val_main_v32 x0 x1 x2 (ix3 b t j) = Q x0 x1 x2 b t (col 2048 (n := 128) (by decide) j) := by
  rw [← projection_at]
  unfold val_main_v32
  generalize val_main_v27 x0 x1 x2 = y
  pointwise [col]

theorem group_values_at (b : Fin 8) (t : Fin 4096) (j : Fin 128) :
    val_main_v33 x0 x1 x2 (ix3 b t j) = Q x0 x1 x2 b t (col 2176 (n := 128) (by decide) j) := by
  rw [← projection_at]
  unfold val_main_v33
  generalize val_main_v27 x0 x1 x2 = y
  pointwise [col]

theorem fourier_input_at (b : Fin 8) (t : Fin 4096) (j : Fin 512) :
    val_main_v34 x0 x1 x2 (ix3 b t j) = Q x0 x1 x2 b t (col 2304 (n := 512) (by decide) j) := by
  rw [← projection_at]
  unfold val_main_v34
  generalize val_main_v27 x0 x1 x2 = y
  pointwise [col]

theorem gate_input_at (b : Fin 8) (t : Fin 4096) (j : Fin 3072) :
    val_main_v35 x0 x1 x2 (ix3 b t j) = Q x0 x1 x2 b t (col 2816 (n := 3072) (by decide) j) := by
  rw [← projection_at]
  unfold val_main_v35
  generalize val_main_v27 x0 x1 x2 = y
  pointwise [col]

/-- The sequence and the position of a token. -/
def sq (R : Fin 32768) : Fin 8 := ⟨R.val / 4096, by omega⟩
def ps (R : Fin 32768) : Fin 4096 := ⟨R.val % 4096, by omega⟩

theorem values_result (R : Fin 32768) (j : Fin 512) :
    val_main_v154 x0 x1 x2 (ix2 R j) = Q x0 x1 x2 (sq R) (ps R) (col 1024 (n := 512) (by decide) j) := by
  rw [← values_at]
  unfold val_main_v154 val_main_v153
  generalize val_main_v30 x0 x1 x2 = y
  pointwise [sq, ps]

theorem group_values_result (R : Fin 32768) (j : Fin 128) :
    val_main_v159 x0 x1 x2 (ix2 R j) = Q x0 x1 x2 (sq R) (ps R) (col 2176 (n := 128) (by decide) j) := by
  rw [← group_values_at]
  unfold val_main_v159 val_main_v158
  generalize val_main_v33 x0 x1 x2 = y
  pointwise [sq, ps]

theorem fourier_input_result (R : Fin 32768) (j : Fin 512) :
    val_main_v161 x0 x1 x2 (ix2 R j) = Q x0 x1 x2 (sq R) (ps R) (col 2304 (n := 512) (by decide) j) := by
  rw [← fourier_input_at]
  unfold val_main_v161 val_main_v160
  generalize val_main_v34 x0 x1 x2 = y
  pointwise [sq, ps]

theorem gates_result (R : Fin 32768) (j : Fin 3072) :
    val_main_v168 x0 x1 x2 (ix2 R j) = Ideal.logistic (Q x0 x1 x2 (sq R) (ps R) (col 2816 (n := 3072) (by decide) j)) := by
  rw [← gate_input_at]
  unfold val_main_v168 val_main_v167 val_main_v166 val_main_v165 val_main_v164 val_main_v163 val_main_v162
  generalize val_main_v35 x0 x1 x2 = y
  pointwise [sq, ps, val_main_cst_11, val_main_cst_12]
  rfl

theorem queries_heads (b : Fin 8) (t : Fin 4096) (h : Fin 8) (l : Fin 64) :
    val_main_v36 x0 x1 x2 (ix4 b t h l) = Q x0 x1 x2 b t (col 0 (n := 512) (by decide) (at8 h l)) := by
  rw [← queries_at]
  unfold val_main_v36
  generalize val_main_v28 x0 x1 x2 = y
  pointwise [at8]

theorem keys_heads (b : Fin 8) (t : Fin 4096) (h : Fin 8) (l : Fin 64) :
    val_main_v58 x0 x1 x2 (ix4 b t h l) = Q x0 x1 x2 b t (col 512 (n := 512) (by decide) (at8 h l)) := by
  rw [← keys_at]
  unfold val_main_v58
  generalize val_main_v29 x0 x1 x2 = y
  pointwise [at8]

theorem group_queries_heads (b : Fin 8) (t : Fin 4096) (h : Fin 8) (l : Fin 64) :
    val_main_v80 x0 x1 x2 (ix4 b t h l) = Q x0 x1 x2 b t (col 1536 (n := 512) (by decide) (at8 h l)) := by
  rw [← group_queries_at]
  unfold val_main_v80
  generalize val_main_v31 x0 x1 x2 = y
  pointwise [at8]

theorem group_keys_heads (b : Fin 8) (t : Fin 4096) (h : Fin 2) (l : Fin 64) :
    val_main_v115 x0 x1 x2 (ix4 b t h l) = Q x0 x1 x2 b t (col 2048 (n := 128) (by decide) (at2 h l)) := by
  rw [← group_keys_at]
  unfold val_main_v115
  generalize val_main_v32 x0 x1 x2 = y
  pointwise [at2]

theorem group_queries_norm (b : Fin 8) (t : Fin 4096) (h : Fin 8) (l : Fin 64) :
    val_main_v93 x0 x1 x2 x3 (ix4 b t h l)
      = norm (fun l => val_main_v80 x0 x1 x2 (ix4 b t h l)) (fun l => x3 (ix1 l)) l := by
  unfold val_main_v93 val_main_v92 val_main_v91 val_main_v90 val_main_v89 val_main_v88 val_main_v87 val_main_v86 val_main_v85 val_main_v84 val_main_v83 val_main_v82 val_main_v81
  generalize val_main_v80 x0 x1 x2 = y
  pointwise [val_main_cst_5, val_main_cst_6, val_main_cst_7]
  rfl

theorem group_keys_norm (b : Fin 8) (t : Fin 4096) (h : Fin 2) (l : Fin 64) :
    val_main_v128 x0 x1 x2 x4 (ix4 b t h l)
      = norm (fun l => val_main_v115 x0 x1 x2 (ix4 b t h l)) (fun l => x4 (ix1 l)) l := by
  unfold val_main_v128 val_main_v127 val_main_v126 val_main_v125 val_main_v124 val_main_v123 val_main_v122 val_main_v121 val_main_v120 val_main_v119 val_main_v118 val_main_v117 val_main_v116
  generalize val_main_v115 x0 x1 x2 = y
  pointwise [val_main_cst_8, val_main_cst_9, val_main_cst_10]
  rfl

theorem queries_turned (b : Fin 8) (t : Fin 4096) (h : Fin 8) (l : Fin 64) :
    val_main_v57 x0 x1 x2 x5 x6 (ix4 b t h l)
      = rope (fun l => val_main_v36 x0 x1 x2 (ix4 b t h l)) (fun p => x5 (ix2 t p)) (fun p => x6 (ix2 t p)) l := by
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37
  generalize val_main_v36 x0 x1 x2 = y
  pointwise [rope, ev, od, pr]
  refine pick l (fun _ => ?_) (fun _ => ?_) <;> simp only [Nat.mul_comm _ 2]

theorem keys_turned (b : Fin 8) (t : Fin 4096) (h : Fin 8) (l : Fin 64) :
    val_main_v79 x0 x1 x2 x5 x6 (ix4 b t h l)
      = rope (fun l => val_main_v58 x0 x1 x2 (ix4 b t h l)) (fun p => x5 (ix2 t p)) (fun p => x6 (ix2 t p)) l := by
  unfold val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59
  generalize val_main_v58 x0 x1 x2 = y
  pointwise [rope, ev, od, pr]
  refine pick l (fun _ => ?_) (fun _ => ?_) <;> simp only [Nat.mul_comm _ 2]

theorem group_queries_turned (b : Fin 8) (t : Fin 4096) (h : Fin 8) (l : Fin 64) :
    val_main_v114 x0 x1 x2 x3 x5 x6 (ix4 b t h l)
      = rope (fun l => val_main_v93 x0 x1 x2 x3 (ix4 b t h l)) (fun p => x5 (ix2 t p)) (fun p => x6 (ix2 t p)) l := by
  unfold val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94
  generalize val_main_v93 x0 x1 x2 x3 = y
  pointwise [rope, ev, od, pr]
  refine pick l (fun _ => ?_) (fun _ => ?_) <;> simp only [Nat.mul_comm _ 2]

theorem group_keys_turned (b : Fin 8) (t : Fin 4096) (h : Fin 2) (l : Fin 64) :
    val_main_v149 x0 x1 x2 x4 x5 x6 (ix4 b t h l)
      = rope (fun l => val_main_v128 x0 x1 x2 x4 (ix4 b t h l)) (fun p => x5 (ix2 t p)) (fun p => x6 (ix2 t p)) l := by
  unfold val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129
  generalize val_main_v128 x0 x1 x2 x4 = y
  pointwise [rope, ev, od, pr]
  refine pick l (fun _ => ?_) (fun _ => ?_) <;> simp only [Nat.mul_comm _ 2]

theorem queries_result (R : Fin 32768) (j : Fin 512) : val_main_v150 x0 x1 x2 x5 x6 (ix2 R j)
    = rope (fun l => Q x0 x1 x2 (sq R) (ps R) (col 0 (n := 512) (by decide) (at8 (hd8 j) l)))
        (fun p => x5 (ix2 (ps R) p)) (fun p => x6 (ix2 (ps R) p)) (ln8 j) := by
  have e : val_main_v150 x0 x1 x2 x5 x6 (ix2 R j) = val_main_v57 x0 x1 x2 x5 x6 (ix4 (sq R) (ps R) (hd8 j) (ln8 j)) := by
    unfold val_main_v150
    generalize val_main_v57 x0 x1 x2 x5 x6 = y
    pointwise [sq, ps, hd8, ln8]
  rw [e, queries_turned]
  simp only [queries_heads]

theorem keys_result (R : Fin 32768) (j : Fin 512) : val_main_v152 x0 x1 x2 x5 x6 (ix2 R j)
    = rope (fun l => Q x0 x1 x2 (sq R) (ps R) (col 512 (n := 512) (by decide) (at8 (hd8 j) l)))
        (fun p => x5 (ix2 (ps R) p)) (fun p => x6 (ix2 (ps R) p)) (ln8 j) := by
  have e : val_main_v152 x0 x1 x2 x5 x6 (ix2 R j) = val_main_v79 x0 x1 x2 x5 x6 (ix4 (sq R) (ps R) (hd8 j) (ln8 j)) := by
    unfold val_main_v152 val_main_v151
    generalize val_main_v79 x0 x1 x2 x5 x6 = y
    pointwise [sq, ps, hd8, ln8]
  rw [e, keys_turned]
  simp only [keys_heads]

theorem group_queries_result (R : Fin 32768) (j : Fin 512) : val_main_v155 x0 x1 x2 x3 x5 x6 (ix2 R j)
    = rope (norm (fun l => Q x0 x1 x2 (sq R) (ps R) (col 1536 (n := 512) (by decide) (at8 (hd8 j) l))) (fun l => x3 (ix1 l)))
        (fun p => x5 (ix2 (ps R) p)) (fun p => x6 (ix2 (ps R) p)) (ln8 j) := by
  have e : val_main_v155 x0 x1 x2 x3 x5 x6 (ix2 R j) = val_main_v114 x0 x1 x2 x3 x5 x6 (ix4 (sq R) (ps R) (hd8 j) (ln8 j)) := by
    unfold val_main_v155
    generalize val_main_v114 x0 x1 x2 x3 x5 x6 = y
    pointwise [sq, ps, hd8, ln8]
  rw [e, group_queries_turned]
  simp only [group_queries_norm, group_queries_heads]

theorem group_keys_result (R : Fin 32768) (j : Fin 128) : val_main_v157 x0 x1 x2 x4 x5 x6 (ix2 R j)
    = rope (norm (fun l => Q x0 x1 x2 (sq R) (ps R) (col 2048 (n := 128) (by decide) (at2 (hd2 j) l))) (fun l => x4 (ix1 l)))
        (fun p => x5 (ix2 (ps R) p)) (fun p => x6 (ix2 (ps R) p)) (ln2 j) := by
  have e : val_main_v157 x0 x1 x2 x4 x5 x6 (ix2 R j) = val_main_v149 x0 x1 x2 x4 x5 x6 (ix4 (sq R) (ps R) (hd2 j) (ln2 j)) := by
    unfold val_main_v157 val_main_v156
    generalize val_main_v149 x0 x1 x2 x4 x5 x6 = y
    pointwise [sq, ps, hd2, ln2]
  rw [e, group_keys_turned]
  simp only [group_keys_norm, group_keys_heads]

end Cert.Reference2Ideal.Ref
end
-- ==== Proof.ProjPre.lean ====
module
public import proofs.«01_k».proof.Pre_finite_inputs
public import proofs.«01_k».proof.Proof.Pre
@[expose] public section
set_option maxRecDepth 16384

/-! The projection's precondition read back: the tokens, the shift and scale of the latent sequences and the columns of the
grouped-query queries and keys are real numbers. -/

noncomputable section
namespace Cert.Pre_finite_inputs
open Idealize.ShloMosaic Cert.Pre_finite

theorem facts : Facts where
  slices_S16x6144_S8x2048_0_0 := by decide
  slices_S1024x5888_S1024x640_0_1536 := by decide
  bcast_S_S32768x1024 := by decide
  reducesTo_S32768x1024_S_d0_1 := by decide
  h_S_ := by decide
  bcast_S_S8x2048 := by decide
  reducesTo_S8x2048_S_d0_1 := by decide
  bcast_S_S1024x640 := by decide
  reducesTo_S1024x640_S_d0_1 := by decide

/-- The precondition, read back. -/
theorem reals [Facts] (x0 : FVec Ideal S32768x1024 .f32) (x1 : FVec Ideal S16x6144 .f32) (x2 : FVec Ideal S1024x5888 .f32)
    (x3 x4 : FVec Ideal S64 .f32) (x5 x6 : FVec Ideal S4096x32 .f32) (h : fn x0 x1 x2 x3 x4 x5 x6 = fun _ => 1#1) :
    (∀ i, ∃ r : ℝ, x0 i = (r : EReal))
      ∧ (∀ (b : Fin 8) (k : Fin 2048), ∃ r : ℝ, x1 (ix2 (⟨b.val, by omega⟩ : Fin 16) (⟨k.val, by omega⟩ : Fin 6144)) = (r : EReal))
      ∧ (∀ (k : Fin 1024) (j : Fin 640), ∃ r : ℝ, x2 (ix2 k (⟨1536 + j.val, by omega⟩ : Fin 5888)) = (r : EReal)) := by
  have e : fn x0 x1 x2 x3 x4 x5 x6 (fun a => a.elim0) = 1#1 := congrFun h _
  dsimp only [fn] at e
  obtain ⟨e, e2⟩ := IntOp.andi_eq_one.1 e
  obtain ⟨e0, e1⟩ := IntOp.andi_eq_one.1 e
  refine ⟨all_real_of_reduce _ _ _ _ _ e0, fun b k => ?_, fun k j => ?_⟩
  · obtain ⟨r, hr⟩ := all_real_of_reduce _ _ _ _ _ e1 (ix2 b k)
    refine ⟨r, Eq.trans ?_ hr⟩
    pointwise []
  · obtain ⟨r, hr⟩ := all_real_of_reduce _ _ _ _ _ e2 (ix2 k j)
    refine ⟨r, Eq.trans ?_ hr⟩
    pointwise []

end Cert.Pre_finite_inputs
end
-- ==== Proof.ProjResult.lean ====
module
public import proofs.«01_k».proof.Proof.ProjFinal
public import proofs.«01_k».proof.Proof.ProjRef
public import proofs.«01_k».proof.Proof.ProjPre
@[expose] public section
set_option maxRecDepth 16384

/-! The projection's eight arrays after its run are the reference's eight results of the same arguments. -/

noncomputable section
namespace Cert.ProjResult
open Cert.Kernel2Ideal Cert.Kernel2Ideal.Gen Cert.Kernel2Ideal.Arrays Idealize.ShloMosaic Idealize.ShloMosaic.TcCoe Idealize.SL.Sem Cert.Proj
open Cert.Reference2Ideal.Ref (Q tok wide sq ps)

variable (m : (ℓ : Loc nD τ sig) → Buf (Elt Ideal) ℓ) (c : Dev nD)

theorem tok_split (R : Fin 32768) : tok (sq R) (ps R) = R := Fin.ext (by simp only [tok, Cert.Reference2Ideal.Ref.sq, ps]; omega)

theorem same_projection (R : Fin 32768) (j : Fin 5888) : Q (m ((c : Thread nD τ).loc main_arg0)) (m ((c : Thread nD τ).loc main_arg1))
    (m ((c : Thread nD τ).loc main_arg2)) (sq R) (ps R) j = P m c R j := by
  rw [Q, P, tok_split]
  rfl

/-- Under the precondition the columns of the grouped-query queries and keys are real numbers. -/
theorem projection_real (h0 : ∀ i, ∃ r : ℝ, m ((c : Thread nD τ).loc main_arg0) i = (r : EReal))
    (h1 : ∀ (b : Fin 8) (k : Fin 2048), ∃ r : ℝ,
      m ((c : Thread nD τ).loc main_arg1) (ix2 (⟨b.val, by omega⟩ : Fin 16) (⟨k.val, by omega⟩ : Fin 6144)) = (r : EReal))
    (h2 : ∀ (k : Fin 1024) (j : Fin 640), ∃ r : ℝ,
      m ((c : Thread nD τ).loc main_arg2) (ix2 k (⟨1536 + j.val, by omega⟩ : Fin 5888)) = (r : EReal))
    (R : Fin 32768) (j : Fin 5888) (l : 1536 ≤ j.val) (u : j.val < 2176) : ∃ a : ℝ, P m c R j = (a : EReal) := by
  refine proj_real _ _ _ j (fun k => h0 _) (fun k hk => h1 (sq R) ⟨k.val, hk⟩) (fun k => ?_)
  have e : j = (⟨1536 + (⟨j.val - 1536, by omega⟩ : Fin 640).val, by simp only []; omega⟩ : Fin 5888) :=
    Fin.ext (by simp only []; omega)
  rw [e]
  exact h2 k _

theorem values_result : (dats m 0 c).arrAt 10 cfg0.N
    = Cert.Reference2Ideal.Read.val_main_v154 (m ((c : Thread nD τ).loc main_arg0)) (m ((c : Thread nD τ).loc main_arg1)) (m ((c : Thread nD τ).loc main_arg2)) := by
  rw [values_final]
  funext i
  have e : i = ix2 (i 0) (i 1) := by
    funext a
    match a with
    | ⟨0, _⟩ => rfl
    | ⟨1, _⟩ => rfl
  refine Eq.symm ((congrArg (Cert.Reference2Ideal.Read.val_main_v154 (m ((c : Thread nD τ).loc main_arg0)) (m ((c : Thread nD τ).loc main_arg1)) (m ((c : Thread nD τ).loc main_arg2))) e).trans
    ((Cert.Reference2Ideal.Ref.values_result _ _ _ (i 0) (i 1)).trans ?_))
  exact same_projection m c (i 0) _

theorem group_values_result : (dats m 0 c).arrAt 13 cfg0.N
    = Cert.Reference2Ideal.Read.val_main_v159 (m ((c : Thread nD τ).loc main_arg0)) (m ((c : Thread nD τ).loc main_arg1)) (m ((c : Thread nD τ).loc main_arg2)) := by
  rw [group_values_final]
  funext i
  have e : i = ix2 (i 0) (i 1) := by
    funext a
    match a with
    | ⟨0, _⟩ => rfl
    | ⟨1, _⟩ => rfl
  refine Eq.symm ((congrArg (Cert.Reference2Ideal.Read.val_main_v159 (m ((c : Thread nD τ).loc main_arg0)) (m ((c : Thread nD τ).loc main_arg1)) (m ((c : Thread nD τ).loc main_arg2))) e).trans
    ((Cert.Reference2Ideal.Ref.group_values_result _ _ _ (i 0) (i 1)).trans ?_))
  exact same_projection m c (i 0) _

theorem fourier_input_result : (dats m 0 c).arrAt 14 cfg0.N
    = Cert.Reference2Ideal.Read.val_main_v161 (m ((c : Thread nD τ).loc main_arg0)) (m ((c : Thread nD τ).loc main_arg1)) (m ((c : Thread nD τ).loc main_arg2)) := by
  rw [fourier_input_final]
  funext i
  have e : i = ix2 (i 0) (i 1) := by
    funext a
    match a with
    | ⟨0, _⟩ => rfl
    | ⟨1, _⟩ => rfl
  refine Eq.symm ((congrArg (Cert.Reference2Ideal.Read.val_main_v161 (m ((c : Thread nD τ).loc main_arg0)) (m ((c : Thread nD τ).loc main_arg1)) (m ((c : Thread nD τ).loc main_arg2))) e).trans
    ((Cert.Reference2Ideal.Ref.fourier_input_result _ _ _ (i 0) (i 1)).trans ?_))
  exact same_projection m c (i 0) _

theorem gates_result : (dats m 0 c).arrAt 15 cfg0.N
    = Cert.Reference2Ideal.Read.val_main_v168 (m ((c : Thread nD τ).loc main_arg0)) (m ((c : Thread nD τ).loc main_arg1)) (m ((c : Thread nD τ).loc main_arg2)) := by
  rw [gates_final]
  funext i
  have e : i = ix2 (i 0) (i 1) := by
    funext a
    match a with
    | ⟨0, _⟩ => rfl
    | ⟨1, _⟩ => rfl
  refine Eq.symm ((congrArg (Cert.Reference2Ideal.Read.val_main_v168 (m ((c : Thread nD τ).loc main_arg0)) (m ((c : Thread nD τ).loc main_arg1)) (m ((c : Thread nD τ).loc main_arg2))) e).trans
    ((Cert.Reference2Ideal.Ref.gates_result _ _ _ (i 0) (i 1)).trans ?_))
  exact congrArg Ideal.logistic (same_projection m c (i 0) _)

theorem queries_result : (dats m 0 c).arrAt 8 cfg0.N
    = Cert.Reference2Ideal.Read.val_main_v150 (m ((c : Thread nD τ).loc main_arg0)) (m ((c : Thread nD τ).loc main_arg1)) (m ((c : Thread nD τ).loc main_arg2)) (m ((c : Thread nD τ).loc main_arg5)) (m ((c : Thread nD τ).loc main_arg6)) := by
  rw [queries_final]
  funext i
  have e : i = ix2 (i 0) (i 1) := by
    funext a
    match a with
    | ⟨0, _⟩ => rfl
    | ⟨1, _⟩ => rfl
  refine Eq.symm ((congrArg (Cert.Reference2Ideal.Read.val_main_v150 (m ((c : Thread nD τ).loc main_arg0)) (m ((c : Thread nD τ).loc main_arg1)) (m ((c : Thread nD τ).loc main_arg2)) (m ((c : Thread nD τ).loc main_arg5)) (m ((c : Thread nD τ).loc main_arg6))) e).trans
    ((Cert.Reference2Ideal.Ref.queries_result _ _ _ _ _ (i 0) (i 1)).trans ?_))
  exact congrArg (fun f => rope f (cosRow m c (i 0)) (sinRow m c (i 0)) (ln8 (i 1))) (funext fun l => same_projection m c (i 0) _)

theorem keys_result : (dats m 0 c).arrAt 9 cfg0.N
    = Cert.Reference2Ideal.Read.val_main_v152 (m ((c : Thread nD τ).loc main_arg0)) (m ((c : Thread nD τ).loc main_arg1)) (m ((c : Thread nD τ).loc main_arg2)) (m ((c : Thread nD τ).loc main_arg5)) (m ((c : Thread nD τ).loc main_arg6)) := by
  rw [keys_final]
  funext i
  have e : i = ix2 (i 0) (i 1) := by
    funext a
    match a with
    | ⟨0, _⟩ => rfl
    | ⟨1, _⟩ => rfl
  refine Eq.symm ((congrArg (Cert.Reference2Ideal.Read.val_main_v152 (m ((c : Thread nD τ).loc main_arg0)) (m ((c : Thread nD τ).loc main_arg1)) (m ((c : Thread nD τ).loc main_arg2)) (m ((c : Thread nD τ).loc main_arg5)) (m ((c : Thread nD τ).loc main_arg6))) e).trans
    ((Cert.Reference2Ideal.Ref.keys_result _ _ _ _ _ (i 0) (i 1)).trans ?_))
  exact congrArg (fun f => rope f (cosRow m c (i 0)) (sinRow m c (i 0)) (ln8 (i 1))) (funext fun l => same_projection m c (i 0) _)

theorem group_queries_result (hp : ∀ R (j : Fin 5888), 1536 ≤ j.val → j.val < 2176 → ∃ a : ℝ, P m c R j = (a : EReal)) : (dats m 0 c).arrAt 11 cfg0.N
    = Cert.Reference2Ideal.Read.val_main_v155 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  rw [group_queries_final m c hp]
  funext i
  have e : i = ix2 (i 0) (i 1) := by
    funext a
    match a with
    | ⟨0, _⟩ => rfl
    | ⟨1, _⟩ => rfl
  refine Eq.symm ((congrArg (Cert.Reference2Ideal.Read.val_main_v155 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) e).trans
    ((Cert.Reference2Ideal.Ref.group_queries_result _ _ _ _ _ _ (i 0) (i 1)).trans ?_))
  exact congrArg (fun f => rope (norm f (queryGain m c)) (cosRow m c (i 0)) (sinRow m c (i 0)) (ln8 (i 1))) (funext fun l => same_projection m c (i 0) _)

theorem group_keys_result (hp : ∀ R (j : Fin 5888), 1536 ≤ j.val → j.val < 2176 → ∃ a : ℝ, P m c R j = (a : EReal)) : (dats m 0 c).arrAt 12 cfg0.N
    = Cert.Reference2Ideal.Read.val_main_v157 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  rw [group_keys_final m c hp]
  funext i
  have e : i = ix2 (i 0) (i 1) := by
    funext a
    match a with
    | ⟨0, _⟩ => rfl
    | ⟨1, _⟩ => rfl
  refine Eq.symm ((congrArg (Cert.Reference2Ideal.Read.val_main_v157 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) e).trans
    ((Cert.Reference2Ideal.Ref.group_keys_result _ _ _ _ _ _ (i 0) (i 1)).trans ?_))
  exact congrArg (fun f => rope (norm f (keyGain m c)) (cosRow m c (i 0)) (sinRow m c (i 0)) (ln2 (i 1))) (funext fun l => same_projection m c (i 0) _)

end Cert.ProjResult
end
-- ==== Proof.MergeMath.lean ====
module
public import proofs.«01_k».proof.Proof.ProjMath
@[expose] public section

/-! The arithmetic of one token of the merge: the gated sum of the three branches, the output projection, the residual and
    the layer norm with its gain and bias, over the extended reals. -/

noncomputable section
namespace Cert.Merge
open Idealize.ShloMosaic
open Cert.Proj (mean)
open scoped BigOperators

/-- Column `k` of the gates of the branch `p`. -/
def gcol (p : Fin 3) (k : Fin 1024) : Fin 3072 := ⟨p.val * 1024 + k.val, by omega⟩

/-- Column `j` of the first gate of the modulation. -/
def mcol (j : Fin 1024) : Fin 6144 := ⟨2048 + j.val, by omega⟩

/-- The gated sum of the projections of the three branches. -/
def mixed (d g f : Fin 512 → EReal) (z : Fin 3072 → EReal) (w : Fin 3 → Fin 512 → Fin 1024 → EReal) (k : Fin 1024) : EReal :=
  z (gcol 0 k) * (∑ i, d i * w 0 i k) + z (gcol 1 k) * (∑ i, g i * w 1 i k) + z (gcol 2 k) * (∑ i, f i * w 2 i k)

/-- The token scaled, with the gated output projection added. -/
def joined (x : Fin 1024 → EReal) (u : Fin 6144 → EReal) (y : Fin 1024 → EReal) (o : Fin 1024 → Fin 1024 → EReal)
    (j : Fin 1024) : EReal :=
  Ideal.ofBits .f32 0x3FD744FD#32 * x j + u (mcol j) * ∑ k, y k * o k j

/-- The layer norm of a row with its gain and bias. -/
def normed (x g b : Fin 1024 → EReal) (j : Fin 1024) : EReal :=
  (x j - mean x) * Ideal.rsqrt (Ideal.div (∑ i, (x i - mean x) * (x i - mean x)) (Ideal.ofBits .f32 0x44800000#32)
      + Ideal.ofBits .f32 0x358637BD#32) * g j + b j

end Cert.Merge
end
-- ==== Proof.MergeBlock.lean ====
module
public import proofs.«01_k».proof.Proof.Gen.Kernel3Ideal.Frame
public import Idealize.ShloMosaic.Lib.Pipeline.Value
public import Idealize.ShloMosaic.Lib.Pipeline.ValueKit
public import proofs.«01_k».proof.Proof.MergeMath
@[expose] public section
set_option maxRecDepth 16384

/-! What the merge's body computes, read at one row and column of a tile. -/

noncomputable section
namespace Cert.Kernel3Ideal.Block
open Cert.Kernel3Ideal Cert.Kernel3Ideal.Gen Idealize.ShloMosaic Idealize.ShloMosaic.TcCoe Idealize.SL.Sem Cert.Merge

theorem mix_tile (v0 : Vec Ideal S512x1024 .f32) (v1 : Vec Ideal S512x512 .bf16) (v2 : Vec Ideal S1x512x1024 .bf16)
    (v6 : Vec Ideal S512x1024 .f32) (v7 : Vec Ideal S512x512 .bf16) (v8 : Vec Ideal S1x512x1024 .bf16)
    (v13 : Vec Ideal S512x1024 .f32) (v14 : Vec Ideal S512x512 .bf16) (v15 : Vec Ideal S1x512x1024 .bf16)
    (v21 : Vec Ideal S1024x1024 .bf16) (r : Fin 512) (j : Fin 1024) :
    k0_pay2 (F := Ideal) v0 v1 v2 v6 v7 v8 v13 v14 v15 v21 (ix2 r j)
      = ∑ k : Fin 1024, (fun (a b : EReal) => a * b) ((fun (a b : EReal) => a + b)
          ((fun (a b : EReal) => a + b) (v0 (ix2 r k) * ∑ i : Fin 512, (fun (a b : EReal) => a * b) (v1 (ix2 r i)) (v2 (ix3 0 i k)))
            (v6 (ix2 r k) * ∑ i : Fin 512, (fun (a b : EReal) => a * b) (v7 (ix2 r i)) (v8 (ix3 0 i k))))
          (v13 (ix2 r k) * ∑ i : Fin 512, (fun (a b : EReal) => a * b) (v14 (ix2 r i)) (v15 (ix3 0 i k)))) (v21 (ix2 k j)) := by
  pointwise [k0_pay2]

theorem gate_tile (u : Vec Ideal S1x1x6144 .f32) (j : Fin 1024) :
    k0_pay3 (F := Ideal) u (ix2 0 j) = u (ix3 0 0 (mcol j)) := by
  pointwise [k0_pay3, mcol]

theorem norm_tile (y : FVec Ideal S512x1024 .f32) (a : FVec Ideal S1x1024 .f32) (x : Vec Ideal S512x1024 .f32)
    (g b : Vec Ideal S1x1024 .f32) (r : Fin 512) (j : Fin 1024) :
    k0_pay1 (F := Ideal) y a x g b (ix2 r j)
      = normed (fun j => Ideal.ofBits .f32 0x3FD744FD#32 * x (ix2 r j) + a (ix2 0 j) * y (ix2 r j)) (fun j => g (ix2 0 j))
        (fun j => b (ix2 0 j)) j := by
  pointwise [k0_pay1]
  rfl

variable (x0 x1 x2 : Vec Ideal S512x512 .bf16) (x3 : Vec Ideal S512x3072 .f32) (x4 : Vec Ideal S512x1024 .f32)
  (x5 : Vec Ideal S1x1x6144 .f32) (x6 : Vec Ideal S3x512x1024 .bf16) (x7 : Vec Ideal S1024x1024 .bf16)
  (x8 x9 : Vec Ideal S1x1024 .f32)

theorem tile_index (x : S512x1024.Idx) : ∃ (r : Fin 512) (j : Fin 1024), x = ix2 r j :=
  ⟨x 0, x 1, funext fun a => match a with | ⟨0, _⟩ => rfl | ⟨1, _⟩ => rfl⟩

/-- What the body gives at row `r` and column `j`. -/
def tileAt (r : Fin 512) (j : Fin 1024) : EReal :=
  normed (joined (fun k => x4 (ix2 r k)) (fun k => x5 (ix3 0 0 k))
      (mixed (fun i => x0 (ix2 r i)) (fun i => x1 (ix2 r i)) (fun i => x2 (ix2 r i)) (fun k => x3 (ix2 r k))
        (fun p i k => x6 (ix3 p i k))) (fun k j => x7 (ix2 k j)))
    (fun j => x8 (ix2 0 j)) (fun j => x9 (ix2 0 j)) j

theorem tile (y : S512x1024.Idx) : out0_10 x0 x1 x2 x3 x4 x5 x6 x7 x8 x9 y = tileAt x0 x1 x2 x3 x4 x5 x6 x7 x8 x9 (y 0) (y 1) := by
  unfold out0_10
  canon_tiles x h
  obtain ⟨r, j, rfl⟩ := tile_index x
  have e0 : (y 0 : Fin 512) = r := Fin.ext h0
  have e1 : (y 1 : Fin 1024) = j := Fin.ext h1
  rw [e0, e1, norm_tile, tileAt]
  congr 1
  · funext j
    rw [mix_tile, gate_tile, joined]
    unfold mixed gcol
    pointwise []
  · funext j
    pointwise []
  · funext j
    pointwise []

end Cert.Kernel3Ideal.Block
end
-- ==== Proof.MergeArrays.lean ====
module
public import proofs.«01_k».proof.Proof.MergeBlock
@[expose] public section
set_option maxRecDepth 16384

/-! The arrays of the merge: what the host code prepares, the blocks of the windows, and the array after the run. -/

noncomputable section
namespace Cert.Kernel3Ideal.Arrays
open Cert.Kernel3Ideal Cert.Kernel3Ideal.Gen Cert.Kernel3Ideal.Block Idealize.ShloMosaic Idealize.ShloMosaic.TcCoe Idealize.SL.Sem Cert.Merge

variable (m : (ℓ : Loc nD τ sig) → Buf (Elt Ideal) ℓ)

theorem mod_entry (c : Dev nD) (b : Fin 16) (k : Fin 6144) :
    V m c main_v0 (ix3 b 0 k) = m ((c : Thread nD τ).loc main_arg5) (ix2 b k) := by
  entry_read
  pointwise []

theorem branch_entry (c : Dev nD) (p : Fin 3) (i : Fin 512) (k : Fin 1024) :
    V m c main_v1 (ix3 p i k) = m ((c : Thread nD τ).loc main_arg6) (ix3 p i k) := by
  entry_read
  pointwise []

theorem output_entry (c : Dev nD) (k j : Fin 1024) :
    V m c main_v2 (ix2 k j) = m ((c : Thread nD τ).loc main_arg7) (ix2 k j) := by
  entry_read
  pointwise []

theorem gain_entry (c : Dev nD) (j : Fin 1024) : V m c main_v5 (ix2 0 j) = m ((c : Thread nD τ).loc main_arg8) (ix2 0 j) := by
  entry_read
  pointwise []

theorem bias_entry (c : Dev nD) (j : Fin 1024) : V m c main_v8 (ix2 0 j) = m ((c : Thread nD τ).loc main_arg9) (ix2 0 j) := by
  entry_read
  pointwise []

theorem at0 (t : Fin cfg0.N) : win0_0.index t = ![t.val, 0] := (by decide +kernel : ∀ t : Fin grid0.N, win0_0.index t = ![t.val, 0]) t
theorem at1 (t : Fin cfg0.N) : win0_1.index t = ![t.val, 0] := (by decide +kernel : ∀ t : Fin grid0.N, win0_1.index t = ![t.val, 0]) t
theorem at2 (t : Fin cfg0.N) : win0_2.index t = ![t.val, 0] := (by decide +kernel : ∀ t : Fin grid0.N, win0_2.index t = ![t.val, 0]) t
theorem at3 (t : Fin cfg0.N) : win0_3.index t = ![t.val, 0] := (by decide +kernel : ∀ t : Fin grid0.N, win0_3.index t = ![t.val, 0]) t
theorem at4 (t : Fin cfg0.N) : win0_4.index t = ![t.val, 0] := (by decide +kernel : ∀ t : Fin grid0.N, win0_4.index t = ![t.val, 0]) t
theorem at5 (t : Fin cfg0.N) : win0_5.index t = ![t.val / 8, 0, 0] := (by decide +kernel : ∀ t : Fin grid0.N, win0_5.index t = ![t.val / 8, 0, 0]) t
theorem at6 (t : Fin cfg0.N) : win0_6.index t = ![0, 0, 0] := (by decide +kernel : ∀ t : Fin grid0.N, win0_6.index t = ![0, 0, 0]) t
theorem at7 (t : Fin cfg0.N) : win0_7.index t = ![0, 0] := (by decide +kernel : ∀ t : Fin grid0.N, win0_7.index t = ![0, 0]) t
theorem at8 (t : Fin cfg0.N) : win0_8.index t = ![0, 0] := (by decide +kernel : ∀ t : Fin grid0.N, win0_8.index t = ![0, 0]) t
theorem at9 (t : Fin cfg0.N) : win0_9.index t = ![0, 0] := (by decide +kernel : ∀ t : Fin grid0.N, win0_9.index t = ![0, 0]) t
theorem at10 (t : Fin cfg0.N) : win0_10.index t = ![t.val, 0] := (by decide +kernel : ∀ t : Fin grid0.N, win0_10.index t = ![t.val, 0]) t

theorem points (t : Fin cfg0.N) : t.val < 64 := t.isLt

/-- Row `r` of a grid point's block of tokens. -/
def row (t : Fin cfg0.N) (r : Fin 512) : Fin 32768 := ⟨t.val * 512 + r.val, by have := points t; omega⟩

/-- A token's sequence. -/
def seqOf (R : Fin 32768) : Fin 16 := ⟨R.val / 4096, by omega⟩

theorem diff_block (c : Dev nD) (t : Fin cfg0.N) (r : Fin 512) (k : Fin 512) :
    iblk m c 0 t (ix2 r k) = m ((c : Thread nD τ).loc main_arg0) (ix2 (row t r) k) := by
  rw [← V_main_arg0 m c]
  dsimp only [iblk]
  generalize V m c (Pipeline.arrRef spec0 0) = A
  blk_ext [at0 t, row]

theorem group_block (c : Dev nD) (t : Fin cfg0.N) (r : Fin 512) (k : Fin 512) :
    iblk m c 1 t (ix2 r k) = m ((c : Thread nD τ).loc main_arg1) (ix2 (row t r) k) := by
  rw [← V_main_arg1 m c]
  dsimp only [iblk]
  generalize V m c (Pipeline.arrRef spec0 1) = A
  blk_ext [at1 t, row]

theorem fourier_block (c : Dev nD) (t : Fin cfg0.N) (r : Fin 512) (k : Fin 512) :
    iblk m c 2 t (ix2 r k) = m ((c : Thread nD τ).loc main_arg2) (ix2 (row t r) k) := by
  rw [← V_main_arg2 m c]
  dsimp only [iblk]
  generalize V m c (Pipeline.arrRef spec0 2) = A
  blk_ext [at2 t, row]

theorem gate_block (c : Dev nD) (t : Fin cfg0.N) (r : Fin 512) (k : Fin 3072) :
    iblk m c 3 t (ix2 r k) = m ((c : Thread nD τ).loc main_arg3) (ix2 (row t r) k) := by
  rw [← V_main_arg3 m c]
  dsimp only [iblk]
  generalize V m c (Pipeline.arrRef spec0 3) = A
  blk_ext [at3 t, row]

theorem token_block (c : Dev nD) (t : Fin cfg0.N) (r : Fin 512) (k : Fin 1024) :
    iblk m c 4 t (ix2 r k) = m ((c : Thread nD τ).loc main_arg4) (ix2 (row t r) k) := by
  rw [← V_main_arg4 m c]
  dsimp only [iblk]
  generalize V m c (Pipeline.arrRef spec0 4) = A
  blk_ext [at4 t, row]

theorem mod_block (c : Dev nD) (t : Fin cfg0.N) (r : Fin 512) (k : Fin 6144) :
    iblk m c 5 t (ix3 0 0 k) = m ((c : Thread nD τ).loc main_arg5) (ix2 (seqOf (row t r)) k) := by
  rw [← mod_entry m c]
  dsimp only [iblk]
  generalize V m c (Pipeline.arrRef spec0 5) = A
  have e : seqOf (row t r) = ⟨t.val / 8, by have := points t; omega⟩ := Fin.ext (by simp only [seqOf, row]; omega)
  rw [e]
  blk_ext [at5 t]

theorem branch_block (c : Dev nD) (t : Fin cfg0.N) (p : Fin 3) (i : Fin 512) (k : Fin 1024) :
    iblk m c 6 t (ix3 p i k) = m ((c : Thread nD τ).loc main_arg6) (ix3 p i k) := by
  rw [← branch_entry m c]
  dsimp only [iblk]
  generalize V m c (Pipeline.arrRef spec0 6) = A
  blk_ext [at6 t]

theorem output_block (c : Dev nD) (t : Fin cfg0.N) (k j : Fin 1024) :
    iblk m c 7 t (ix2 k j) = m ((c : Thread nD τ).loc main_arg7) (ix2 k j) := by
  rw [← output_entry m c]
  dsimp only [iblk]
  generalize V m c (Pipeline.arrRef spec0 7) = A
  blk_ext [at7 t]

theorem gain_block (c : Dev nD) (t : Fin cfg0.N) (j : Fin 1024) :
    iblk m c 8 t (ix2 0 j) = m ((c : Thread nD τ).loc main_arg8) (ix2 0 j) := by
  rw [← gain_entry m c]
  dsimp only [iblk]
  generalize V m c (Pipeline.arrRef spec0 8) = A
  blk_ext [at8 t]

theorem bias_block (c : Dev nD) (t : Fin cfg0.N) (j : Fin 1024) :
    iblk m c 9 t (ix2 0 j) = m ((c : Thread nD τ).loc main_arg9) (ix2 0 j) := by
  rw [← bias_entry m c]
  dsimp only [iblk]
  generalize V m c (Pipeline.arrRef spec0 9) = A
  blk_ext [at9 t]

/-- What the merge gives at token `R` and column `j`. -/
def M (c : Dev nD) (R : Fin 32768) (j : Fin 1024) : EReal :=
  normed (joined (fun k => m ((c : Thread nD τ).loc main_arg4) (ix2 R k)) (fun k => m ((c : Thread nD τ).loc main_arg5) (ix2 (seqOf R) k))
      (mixed (fun i => m ((c : Thread nD τ).loc main_arg0) (ix2 R i)) (fun i => m ((c : Thread nD τ).loc main_arg1) (ix2 R i))
        (fun i => m ((c : Thread nD τ).loc main_arg2) (ix2 R i)) (fun k => m ((c : Thread nD τ).loc main_arg3) (ix2 R k))
        (fun p i k => m ((c : Thread nD τ).loc main_arg6) (ix3 p i k)))
      (fun k j => m ((c : Thread nD τ).loc main_arg7) (ix2 k j)))
    (fun j => m ((c : Thread nD τ).loc main_arg8) (ix2 0 j)) (fun j => m ((c : Thread nD τ).loc main_arg9) (ix2 0 j)) j

theorem block_merge (c : Dev nD) (t : Fin cfg0.N) (r : Fin 512) (j : Fin 1024) :
    tileAt (iblk m c 0 t) (iblk m c 1 t) (iblk m c 2 t) (iblk m c 3 t) (iblk m c 4 t) (iblk m c 5 t) (iblk m c 6 t) (iblk m c 7 t)
      (iblk m c 8 t) (iblk m c 9 t) r j = M m c (row t r) j := by
  have h0 := fun k => diff_block m c t r k
  have h1 := fun k => group_block m c t r k
  have h2 := fun k => fourier_block m c t r k
  have h3 := fun k => gate_block m c t r k
  have h4 := fun k => token_block m c t r k
  have h5 := fun k => mod_block m c t r k
  have h6 := fun p i k => branch_block m c t p i k
  have h7 := fun k j => output_block m c t k j
  have h8 := fun k => gain_block m c t k
  have h9 := fun k => bias_block m c t k
  rw [tileAt, M]
  congr 1
  · congr 1
    · funext k; exact h4 k
    · funext k; exact h5 k
    · congr 1
      · funext k; exact h0 k
      · funext k; exact h1 k
      · funext k; exact h2 k
      · funext k; exact h3 k
      · funext p i k; exact h6 p i k
    · funext k j; exact h7 k j
  · funext k; exact h8 k
  · funext k; exact h9 k

theorem merge_point (c : Dev nD) (t : Fin cfg0.N) (y : S512x1024.Idx) :
    out0_10 (iblk m c 0 t) (iblk m c 1 t) (iblk m c 2 t) (iblk m c 3 t) (iblk m c 4 t) (iblk m c 5 t) (iblk m c 6 t) (iblk m c 7 t)
      (iblk m c 8 t) (iblk m c 9 t) y = M m c (row t (y 0)) (y 1) :=
  (tile _ _ _ _ _ _ _ _ _ _ y).trans (block_merge m c t (y 0) (y 1))

theorem merge_final (c : Dev nD) : (dats m 0 c).arrAt 10 cfg0.N = fun i : S32768x1024.Idx => M m c (i 0) (i 1) := by
  refine (dats m 0 c).arrAt_eq_of_covers 10 _ (by decide +kernel) fun t _ y => ?_
  blk_simp
  rw [after0_10]
  refine (merge_point m c t y).trans ?_
  have e : (win0_10.blk t).view.emb y = ix2 (row t (y 0)) (y 1) := by
    blk_ext [at10 t, row]
  exact (congrArg (fun i : S32768x1024.Idx => M m c (i 0) (i 1)) e).symm

end Cert.Kernel3Ideal.Arrays
end
-- ==== Proof.MergeRef.lean ====
module
public import proofs.«01_k».proof.Proof.Gen.Reference3Ideal.Read
public import Idealize.ShloMosaic.Lib.Pipeline.ValueKit
public import proofs.«01_k».proof.Proof.MergeMath
@[expose] public section
set_option maxRecDepth 16384

/-! The reference of the merge, read at one token and one column. -/

noncomputable section
namespace Cert.Reference3Ideal.Ref
open Cert.Reference3Ideal Cert.Reference3Ideal.Read Idealize.ShloMosaic Idealize.ShloMosaic.TcCoe Idealize.SL.Sem Cert.Merge
open Cert.Proj (mean)

/-- Arrays of the reference at the ideal values, in the two formats. -/
abbrev Arr (s : Shape) : Type := (⟨s, .f32⟩ : BufTy).Contents (Elt Ideal)
abbrev Short (s : Shape) : Type := (⟨s, .bf16⟩ : BufTy).Contents (Elt Ideal)

variable (x0 x1 x2 : Short S32768x512) (x3 : Arr S32768x3072) (x4 : Arr S32768x1024) (x5 : Arr S16x6144) (x6 : Arr S3x512x1024)
  (x7 : Arr S1024x1024) (x8 x9 : Arr S2x1024)

/-- The token at one position of one sequence, and the sequence among the rows of the modulation. -/
def tok (b : Fin 8) (t : Fin 4096) : Fin 32768 := ⟨b.val * 4096 + t.val, by omega⟩
def wide (b : Fin 8) : Fin 16 := ⟨b.val, by omega⟩

theorem stack0 (b : Fin 8) (t : Fin 4096) (i : Fin 512) : val_main_v7 x0 x1 x2 (ix4 b t 0 i) = x0 (ix2 (tok b t) i) := by
  pointwise [val_main_v7, val_main_v6, val_main_v5, val_main_v4, val_main_v3, val_main_v2, val_main_v1, val_main_v0]
  rfl

theorem stack1 (b : Fin 8) (t : Fin 4096) (i : Fin 512) : val_main_v7 x0 x1 x2 (ix4 b t 1 i) = x1 (ix2 (tok b t) i) := by
  pointwise [val_main_v7, val_main_v6, val_main_v5, val_main_v4, val_main_v3, val_main_v2, val_main_v1, val_main_v0]
  rfl

theorem stack2 (b : Fin 8) (t : Fin 4096) (i : Fin 512) : val_main_v7 x0 x1 x2 (ix4 b t 2 i) = x2 (ix2 (tok b t) i) := by
  pointwise [val_main_v7, val_main_v6, val_main_v5, val_main_v4, val_main_v3, val_main_v2, val_main_v1, val_main_v0]
  rfl

theorem branch_at (b : Fin 8) (t : Fin 4096) (p : Fin 3) (k : Fin 1024) :
    val_main_v9 x0 x1 x2 x6 (ix4 b t p k) = ∑ i : Fin 512, x6 (ix3 p i k) * val_main_v7 x0 x1 x2 (ix4 b t p i) := by
  unfold val_main_v9 val_main_v8
  generalize val_main_v7 x0 x1 x2 = y
  pointwise []

theorem gates_at (b : Fin 8) (t : Fin 4096) (p : Fin 3) (k : Fin 1024) :
    val_main_v10 x3 (ix4 b t p k) = x3 (ix2 (tok b t) (gcol p k)) := by
  unfold val_main_v10
  pointwise [tok, gcol]

theorem mixed_at (b : Fin 8) (t : Fin 4096) (k : Fin 1024) :
    val_main_v12 x0 x1 x2 x3 x6 (ix3 b t k) = mixed (fun i => x0 (ix2 (tok b t) i)) (fun i => x1 (ix2 (tok b t) i))
      (fun i => x2 (ix2 (tok b t) i)) (fun k => x3 (ix2 (tok b t) k)) (fun p i k => x6 (ix3 p i k)) k := by
  have e : val_main_v12 x0 x1 x2 x3 x6 (ix3 b t k)
      = ∑ p : Fin 3, val_main_v10 x3 (ix4 b t p k) * val_main_v9 x0 x1 x2 x6 (ix4 b t p k) := by
    unfold val_main_v12 val_main_v11
    generalize val_main_v9 x0 x1 x2 x6 = y
    generalize val_main_v10 x3 = z
    pointwise [val_main_cst]
  rw [e, Fin.sum_univ_three, mixed, gates_at, gates_at, gates_at, branch_at, branch_at, branch_at]
  simp only [stack0, stack1, stack2]
  congr 1
  · congr 1
    · exact congrArg _ (Finset.sum_congr rfl fun i _ => mul_comm _ _)
    · exact congrArg _ (Finset.sum_congr rfl fun i _ => mul_comm _ _)
  · exact congrArg _ (Finset.sum_congr rfl fun i _ => mul_comm _ _)

theorem joined_at (b : Fin 8) (t : Fin 4096) (j : Fin 1024) :
    val_main_v21 x0 x1 x2 x3 x4 x5 x6 x7 (ix3 b t j) = joined (fun k => x4 (ix2 (tok b t) k)) (fun k => x5 (ix2 (wide b) k))
      (fun k => val_main_v12 x0 x1 x2 x3 x6 (ix3 b t k)) (fun k j => x7 (ix2 k j)) j := by
  unfold val_main_v21 val_main_v20 val_main_v19 val_main_v18 val_main_v17 val_main_v16 val_main_v15 val_main_v14 val_main_v13
  generalize val_main_v12 x0 x1 x2 x3 x6 = y
  pointwise [val_main_cst_0]
  rfl

theorem centred_at (b : Fin 8) (t : Fin 4096) (j : Fin 1024) :
    val_main_v27 x0 x1 x2 x3 x4 x5 x6 x7 (ix3 b t j) = val_main_v21 x0 x1 x2 x3 x4 x5 x6 x7 (ix3 b t j)
      - mean (fun j => val_main_v21 x0 x1 x2 x3 x4 x5 x6 x7 (ix3 b t j)) := by
  unfold val_main_v27 val_main_v26 val_main_v25 val_main_v24 val_main_v23 val_main_v22
  generalize val_main_v21 x0 x1 x2 x3 x4 x5 x6 x7 = y
  pointwise [val_main_cst_1, val_main_cst_2]
  rfl

theorem normed_at (b : Fin 8) (t : Fin 4096) (j : Fin 1024) :
    val_main_v47 x0 x1 x2 x3 x4 x5 x6 x7 x8 x9 (ix3 b t j)
      = normed (fun j => val_main_v21 x0 x1 x2 x3 x4 x5 x6 x7 (ix3 b t j)) (fun j => x8 (ix2 0 j)) (fun j => x9 (ix2 0 j)) j := by
  have e : val_main_v47 x0 x1 x2 x3 x4 x5 x6 x7 x8 x9 (ix3 b t j)
      = val_main_v27 x0 x1 x2 x3 x4 x5 x6 x7 (ix3 b t j) * Ideal.rsqrt (Ideal.div (∑ k, val_main_v27 x0 x1 x2 x3 x4 x5 x6 x7 (ix3 b t k)
          * val_main_v27 x0 x1 x2 x3 x4 x5 x6 x7 (ix3 b t k)) (Ideal.ofBits .f32 0x44800000#32) + Ideal.ofBits .f32 0x358637BD#32)
        * x8 (ix2 0 j) + x9 (ix2 0 j) := by
    unfold val_main_v47 val_main_v46 val_main_v45 val_main_v44 val_main_v43 val_main_v42 val_main_v41 val_main_v40 val_main_v39
      val_main_v38 val_main_v37 val_main_v36 val_main_v35 val_main_v34 val_main_v33 val_main_v32 val_main_v31 val_main_v30
      val_main_v29 val_main_v28
    generalize val_main_v27 x0 x1 x2 x3 x4 x5 x6 x7 = y
    pointwise [val_main_cst_3, val_main_cst_4, val_main_cst_5]
  rw [e, normed]
  simp only [centred_at]

/-- The sequence and the position of a token. -/
def sq (R : Fin 32768) : Fin 8 := ⟨R.val / 4096, by omega⟩
def ps (R : Fin 32768) : Fin 4096 := ⟨R.val % 4096, by omega⟩

theorem tok_split (R : Fin 32768) : tok (Cert.Reference3Ideal.Ref.sq R) (ps R) = R :=
  Fin.ext (by simp only [tok, Cert.Reference3Ideal.Ref.sq, ps]; omega)

theorem merge_result (R : Fin 32768) (j : Fin 1024) :
    val_main_v48 x0 x1 x2 x3 x4 x5 x6 x7 x8 x9 (ix2 R j)
      = normed (joined (fun k => x4 (ix2 R k)) (fun k => x5 (ix2 (wide (Cert.Reference3Ideal.Ref.sq R)) k))
          (mixed (fun i => x0 (ix2 R i)) (fun i => x1 (ix2 R i)) (fun i => x2 (ix2 R i)) (fun k => x3 (ix2 R k))
            (fun p i k => x6 (ix3 p i k))) (fun k j => x7 (ix2 k j)))
        (fun j => x8 (ix2 0 j)) (fun j => x9 (ix2 0 j)) j := by
  have e : val_main_v48 x0 x1 x2 x3 x4 x5 x6 x7 x8 x9 (ix2 R j)
      = val_main_v47 x0 x1 x2 x3 x4 x5 x6 x7 x8 x9 (ix3 (Cert.Reference3Ideal.Ref.sq R) (ps R) j) := by
    unfold val_main_v48
    generalize val_main_v47 x0 x1 x2 x3 x4 x5 x6 x7 x8 x9 = y
    pointwise [Cert.Reference3Ideal.Ref.sq, ps]
  rw [e, normed_at]
  simp only [joined_at, mixed_at, tok_split]

end Cert.Reference3Ideal.Ref
end
-- ==== Proof.MergeResult.lean ====
module
public import proofs.«01_k».proof.Proof.MergeArrays
public import proofs.«01_k».proof.Proof.MergeRef
@[expose] public section
set_option maxRecDepth 16384

/-! The merge's array after its run is the reference's result of the same arguments. -/

noncomputable section
namespace Cert.MergeResult
open Cert.Kernel3Ideal Cert.Kernel3Ideal.Gen Cert.Kernel3Ideal.Arrays Idealize.ShloMosaic Idealize.ShloMosaic.TcCoe Idealize.SL.Sem Cert.Merge

variable (m : (ℓ : Loc nD τ sig) → Buf (Elt Ideal) ℓ) (c : Dev nD)

theorem merge_result : (dats m 0 c).arrAt 10 cfg0.N = Cert.Reference3Ideal.Read.val_main_v48 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) := by
  rw [merge_final]
  funext i
  have e : i = ix2 (i 0) (i 1) := by
    funext a
    match a with
    | ⟨0, _⟩ => rfl
    | ⟨1, _⟩ => rfl
  refine Eq.symm ((congrArg (Cert.Reference3Ideal.Read.val_main_v48 (F := Ideal) _ _ _ _ _ _ _ _ _ _) e).trans
    ((Cert.Reference3Ideal.Ref.merge_result _ _ _ _ _ _ _ _ _ _ (i 0) (i 1)).trans ?_))
  rfl

end Cert.MergeResult
end
-- ==== Proof.lean ====
module

public import proofs.«01_k».proof.Proof.Gen.KernelIdeal.Value
public import proofs.«01_k».proof.Proof.Gen.ReferenceIdeal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference2Ideal
public import proofs.«01_k».proof.Proof.Final
public import proofs.«01_k».proof.Proof.ProjResult
public import proofs.«01_k».proof.Proof.MergeResult
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxHeartbeats 4000000 in
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Pre_finite.facts,
  Cert.Pre_finite_inputs.facts, by
  refine ⟨?_, ?_, ?_, ?_, ?_, ?_, ?_, ?_, ?_, ?_, ?_, ?_, ?_, ?_, ?_, ?_, ?_, ?_, ?_⟩
  · intro m g _
    exact Cert.Kernel.Gen.frame m g
  · intro m g _
    exact Cert.KernelIdeal.Gen.frame m g
  · intro m g _
    exact Cert.KernelIdeal.Gen.frame m g
  · intro m g _
    exact (θ_run _ _ _).mono (fun r h => ⟨fun c => (h c).2.2, sem_eq_zero_of_no_sems rfl r.2⟩) (Cert.ReferenceIdeal.Value.run m g)
  · intro m g _
    exact (θ_run _ _ _).mono (fun r h => ⟨fun c => (h c).2.2, sem_eq_zero_of_no_sems rfl r.2⟩) (Cert.ReferenceIdeal.Value.run m g)
  · intro m g _
    exact Cert.Kernel2.Gen.frame m g
  · intro m g _
    exact Cert.Kernel2Ideal.Gen.frame m g
  · intro m g _
    exact Cert.Kernel2Ideal.Gen.frame m g
  · intro m g _
    exact (θ_run _ _ _).mono (fun r h => ⟨fun c => (h c).2.2.2.2.2.2.2.2, sem_eq_zero_of_no_sems rfl r.2⟩) (Cert.Reference2Ideal.Value.run m g)
  · intro m g _
    exact (θ_run _ _ _).mono (fun r h => ⟨fun c => (h c).2.2.2.2.2.2.2.2, sem_eq_zero_of_no_sems rfl r.2⟩) (Cert.Reference2Ideal.Value.run m g)
  · intro m g _
    exact Cert.Kernel3.Gen.frame m g
  · intro m g _
    exact Cert.Kernel3Ideal.Gen.frame m g
  · intro m g _
    exact (θ_run _ _ _).mono (fun r h => ⟨fun c => (h c).2, sem_eq_zero_of_no_sems rfl r.2⟩) (Cert.Reference3Ideal.Value.run m g)
  · exact IdealRules.named_const.statement Cert.KernelIdeal.κ "attn_scale" .f32 0x3E38AA3B#32 _ rfl
  · pair_intro
    · run_from Cert.KernelIdeal.Gen.run_main m g
    · run_from Cert.ReferenceIdeal.Value.run m' g'
      all_goals
        obtain ⟨h0, h1, h2, h3, h4, h6, h7, h8, h10⟩ := @Cert.Pre_finite.reals Cert.Pre_finite.facts _ _ _ _ _ _ _ _ _ _ _ _ (hpre c)
        obtain ⟨a0, a1, a2, a3, a4, a5, a6, a7, a8, a9, a10, a11⟩ := hagree c
      · rw [Cert.ReferenceIdeal.Read.val_main_v84_eq, a0, a1, a2, a6, a7, a10, a11]
        exact (Cert.Final.diff_result m c h0 h1 h2 h6 h7 h10).symm
      · rw [Cert.ReferenceIdeal.Read.val_main_v85_eq, a3, a4, a5, a8, a9]
        exact (Cert.Final.group_result m c h3 h4 h8).symm
  · trivial
  · pair_intro
    · run_from Cert.Kernel2Ideal.Gen.run_main m g
      all_goals first
        | with_reducible exact Cert.Kernel2Ideal.Gen.V_main_arg0 m _
        | with_reducible exact Cert.Kernel2Ideal.Gen.V_main_arg1 m _
        | with_reducible exact Cert.Kernel2Ideal.Gen.V_main_arg2 m _
        | with_reducible exact Cert.Kernel2Ideal.Gen.V_main_arg3 m _
        | with_reducible exact Cert.Kernel2Ideal.Gen.V_main_arg4 m _
        | with_reducible exact Cert.Kernel2Ideal.Gen.V_main_arg5 m _
        | with_reducible exact Cert.Kernel2Ideal.Gen.V_main_arg6 m _
        | exact Cert.Kernel2Ideal.Gen.V_main_arg0 m _
        | exact Cert.Kernel2Ideal.Gen.V_main_arg1 m _
        | exact Cert.Kernel2Ideal.Gen.V_main_arg2 m _
        | exact Cert.Kernel2Ideal.Gen.V_main_arg3 m _
        | exact Cert.Kernel2Ideal.Gen.V_main_arg4 m _
        | exact Cert.Kernel2Ideal.Gen.V_main_arg5 m _
        | exact Cert.Kernel2Ideal.Gen.V_main_arg6 m _
    · run_from Cert.Reference2Ideal.Value.run m' g'
      all_goals
        obtain ⟨h0, h1, h2⟩ := @Cert.Pre_finite_inputs.reals Cert.Pre_finite_inputs.facts _ _ _ _ _ _ _ (hpre c)
        obtain ⟨a0, a1, a2, a3, a4, a5, a6⟩ := hagree c
      · rw [Cert.Reference2Ideal.Read.val_main_v150_eq]
        change Cert.Reference2Ideal.Read.val_main_v150 (F := Ideal) (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2))
          (m' ((c.tc : Thread Cert.Reference2Ideal.nD Cert.Reference2Ideal.τ).loc Cert.Reference2Ideal.main_arg5))
          (m' ((c.tc : Thread Cert.Reference2Ideal.nD Cert.Reference2Ideal.τ).loc Cert.Reference2Ideal.main_arg6)) = _
        rw [a0, a1, a2, a5, a6]
        exact (Cert.ProjResult.queries_result m c).symm
      · rw [Cert.Reference2Ideal.Read.val_main_v152_eq]
        change Cert.Reference2Ideal.Read.val_main_v152 (F := Ideal) (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2))
          (m' ((c.tc : Thread Cert.Reference2Ideal.nD Cert.Reference2Ideal.τ).loc Cert.Reference2Ideal.main_arg5))
          (m' ((c.tc : Thread Cert.Reference2Ideal.nD Cert.Reference2Ideal.τ).loc Cert.Reference2Ideal.main_arg6)) = _
        rw [a0, a1, a2, a5, a6]
        exact (Cert.ProjResult.keys_result m c).symm
      · rw [Cert.Reference2Ideal.Read.val_main_v154_eq]
        change Cert.Reference2Ideal.Read.val_main_v154 (F := Ideal) (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2)) = _
        rw [a0, a1, a2]
        exact (Cert.ProjResult.values_result m c).symm
      · rw [Cert.Reference2Ideal.Read.val_main_v155_eq]
        change Cert.Reference2Ideal.Read.val_main_v155 (F := Ideal) (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2))
          (m' ((c.tc : Thread Cert.Reference2Ideal.nD Cert.Reference2Ideal.τ).loc Cert.Reference2Ideal.main_arg3))
          (m' ((c.tc : Thread Cert.Reference2Ideal.nD Cert.Reference2Ideal.τ).loc Cert.Reference2Ideal.main_arg5))
          (m' ((c.tc : Thread Cert.Reference2Ideal.nD Cert.Reference2Ideal.τ).loc Cert.Reference2Ideal.main_arg6)) = _
        rw [a0, a1, a2, a3, a5, a6]
        exact (Cert.ProjResult.group_queries_result m c (Cert.ProjResult.projection_real m c h0 h1 h2)).symm
      · rw [Cert.Reference2Ideal.Read.val_main_v157_eq]
        change Cert.Reference2Ideal.Read.val_main_v157 (F := Ideal) (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2))
          (m' ((c.tc : Thread Cert.Reference2Ideal.nD Cert.Reference2Ideal.τ).loc Cert.Reference2Ideal.main_arg4))
          (m' ((c.tc : Thread Cert.Reference2Ideal.nD Cert.Reference2Ideal.τ).loc Cert.Reference2Ideal.main_arg5))
          (m' ((c.tc : Thread Cert.Reference2Ideal.nD Cert.Reference2Ideal.τ).loc Cert.Reference2Ideal.main_arg6)) = _
        rw [a0, a1, a2, a4, a5, a6]
        exact (Cert.ProjResult.group_keys_result m c (Cert.ProjResult.projection_real m c h0 h1 h2)).symm
      · rw [Cert.Reference2Ideal.Read.val_main_v159_eq]
        change Cert.Reference2Ideal.Read.val_main_v159 (F := Ideal) (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2)) = _
        rw [a0, a1, a2]
        exact (Cert.ProjResult.group_values_result m c).symm
      · rw [Cert.Reference2Ideal.Read.val_main_v161_eq]
        change Cert.Reference2Ideal.Read.val_main_v161 (F := Ideal) (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2)) = _
        rw [a0, a1, a2]
        exact (Cert.ProjResult.fourier_input_result m c).symm
      · rw [Cert.Reference2Ideal.Read.val_main_v168_eq]
        change Cert.Reference2Ideal.Read.val_main_v168 (F := Ideal) (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2)) = _
        rw [a0, a1, a2]
        exact (Cert.ProjResult.gates_result m c).symm
  · trivial
  · pair_intro
    · run_from Cert.Kernel3Ideal.Gen.run_main m g
      all_goals first
        | with_reducible exact Cert.Kernel3Ideal.Gen.V_main_arg0 m _
        | with_reducible exact Cert.Kernel3Ideal.Gen.V_main_arg1 m _
        | with_reducible exact Cert.Kernel3Ideal.Gen.V_main_arg2 m _
        | with_reducible exact Cert.Kernel3Ideal.Gen.V_main_arg3 m _
        | with_reducible exact Cert.Kernel3Ideal.Gen.V_main_arg4 m _
        | with_reducible exact Cert.Kernel3Ideal.Gen.V_main_arg5 m _
        | with_reducible exact Cert.Kernel3Ideal.Gen.V_main_arg6 m _
        | with_reducible exact Cert.Kernel3Ideal.Gen.V_main_arg7 m _
        | with_reducible exact Cert.Kernel3Ideal.Gen.V_main_arg8 m _
        | with_reducible exact Cert.Kernel3Ideal.Gen.V_main_arg9 m _
        | exact Cert.Kernel3Ideal.Gen.V_main_arg0 m _
        | exact Cert.Kernel3Ideal.Gen.V_main_arg1 m _
        | exact Cert.Kernel3Ideal.Gen.V_main_arg2 m _
        | exact Cert.Kernel3Ideal.Gen.V_main_arg3 m _
        | exact Cert.Kernel3Ideal.Gen.V_main_arg4 m _
        | exact Cert.Kernel3Ideal.Gen.V_main_arg5 m _
        | exact Cert.Kernel3Ideal.Gen.V_main_arg6 m _
        | exact Cert.Kernel3Ideal.Gen.V_main_arg7 m _
        | exact Cert.Kernel3Ideal.Gen.V_main_arg8 m _
        | exact Cert.Kernel3Ideal.Gen.V_main_arg9 m _
    · run_from Cert.Reference3Ideal.Value.run m' g'
      obtain ⟨a0, a1, a2, a3, a4, a5, a6, a7, a8, a9⟩ := hagree c
      rw [Cert.Reference3Ideal.Read.val_main_v48_eq]
      change Cert.Reference3Ideal.Read.val_main_v48 (F := Ideal) (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg5))
        (m' ((c.tc : Thread Cert.Reference3Ideal.nD Cert.Reference3Ideal.τ).loc Cert.Reference3Ideal.main_arg6))
        (m' ((c.tc : Thread Cert.Reference3Ideal.nD Cert.Reference3Ideal.τ).loc Cert.Reference3Ideal.main_arg7))
        (m' ((c.tc : Thread Cert.Reference3Ideal.nD Cert.Reference3Ideal.τ).loc Cert.Reference3Ideal.main_arg8))
        (m' ((c.tc : Thread Cert.Reference3Ideal.nD Cert.Reference3Ideal.τ).loc Cert.Reference3Ideal.main_arg9)) = _
      rw [a0, a1, a2, a3, a4, a5, a6, a7, a8, a9]
      exact (Cert.MergeResult.merge_result m c).symm⟩

end Cert.Proof

end
